-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "ent1" .f32 0xBF000000#32 (((1 / 2) * ((Real.log (72057594052339455 / 144115188075855872)) * (Real.log 2)⁻¹) : ℝ) : EReal)
  ∧ IdealRules.named_const.Statement Cert.KernelIdeal.κ "half_ent2" .f32 0xBE800000#32 (((1 / 2) * ((Real.log ((Real.sqrt (72057594052339455 / 144115188075855872)) * (144115188090267391 / 144115188075855872))) * (Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S512x256 : Shape := ⟨2, ![512, 256]⟩
abbrev S512 : Shape := ⟨1, ![512]⟩
abbrev S128x512 : Shape := ⟨2, ![128, 512]⟩
abbrev S128 : Shape := ⟨1, ![128]⟩
abbrev S1x512 : Shape := ⟨2, ![1, 512]⟩
abbrev S1x128 : Shape := ⟨2, ![1, 128]⟩
abbrev S4096x128 : Shape := ⟨2, ![4096, 128]⟩
abbrev S2048x64 : Shape := ⟨2, ![2048, 64]⟩
abbrev S2048x128 : Shape := ⟨2, ![2048, 128]⟩
abbrev S2048x256 : Shape := ⟨2, ![2048, 256]⟩
abbrev S256x256 : Shape := ⟨2, ![256, 256]⟩
abbrev S64x256 : Shape := ⟨2, ![64, 256]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S1x512, .f32⟩
  | .hbm, ⟨6, _⟩ => ⟨S1x128, .f32⟩
  | .hbm, ⟨7, _⟩ => ⟨S4096x128, .f32⟩
  | .local _ .vmem, ⟨0, _⟩ => ⟨S2048x64, .f32⟩
  | .local _ .vmem, ⟨1, _⟩ => ⟨S2048x64, .f32⟩
  | .local _ .vmem, ⟨2, _⟩ => ⟨S512x256, .f32⟩
  | .local _ .vmem, ⟨3, _⟩ => ⟨S1x512, .f32⟩
  | .local _ .vmem, ⟨4, _⟩ => ⟨S128x512, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "ent1" => some (((1 / 2) * ((Real.log (72057594052339455 / 144115188075855872)) * (Real.log 2)⁻¹) : ℝ) : EReal)
  | "half_ent2" => some (((1 / 2) * ((Real.log ((Real.sqrt (72057594052339455 / 144115188075855872)) * (144115188090267391 / 144115188075855872))) * (Real.log 2)⁻¹) : ℝ) : EReal)
  | _ => none
-- ==== ReferenceIdeal.lean ====
abbrev S4096x64 : Shape := ⟨2, ![4096, 64]⟩
abbrev S512x256 : Shape := ⟨2, ![512, 256]⟩
abbrev S512 : Shape := ⟨1, ![512]⟩
abbrev S128x512 : Shape := ⟨2, ![128, 512]⟩
abbrev S128 : Shape := ⟨1, ![128]⟩
abbrev S1 : Shape := ⟨1, ![1]⟩
abbrev S_ : Shape := ⟨0, ![]⟩
abbrev S999 : Shape := ⟨1, ![999]⟩
abbrev S1000 : Shape := ⟨1, ![1000]⟩
abbrev S262144 : Shape := ⟨1, ![262144]⟩
abbrev S1x1000 : Shape := ⟨2, ![1, 1000]⟩
abbrev S262144x1 : Shape := ⟨2, ![262144, 1]⟩
abbrev S262144x1000 : Shape := ⟨2, ![262144, 1000]⟩
abbrev S1001 : Shape := ⟨1, ![1001]⟩
abbrev S262144x4 : Shape := ⟨2, ![262144, 4]⟩
abbrev S4096x256 : Shape := ⟨2, ![4096, 256]⟩
abbrev S256x512 : Shape := ⟨2, ![256, 512]⟩
abbrev S4096x512 : Shape := ⟨2, ![4096, 512]⟩
abbrev S1x512 : Shape := ⟨2, ![1, 512]⟩
abbrev S512x128 : Shape := ⟨2, ![512, 128]⟩
abbrev S4096x128 : Shape := ⟨2, ![4096, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S999, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S999, .f32⟩
  | .hbm, ⟨13, _⟩ => ⟨S_, .i32⟩
  | .hbm, ⟨14, _⟩ => ⟨S_, .i1⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S999, .f32⟩
  | .hbm, ⟨26, _⟩ => ⟨S_, .i32⟩
  | .hbm, ⟨27, _⟩ => ⟨S_, .i32⟩
  | .hbm, ⟨28, _⟩ => ⟨S1000, .f32⟩
  | .hbm, ⟨29, _⟩ => ⟨S262144, .f32⟩
  | .hbm, ⟨30, _⟩ => ⟨S1x1000, .f32⟩
  | .hbm, ⟨31, _⟩ => ⟨S262144x1, .f32⟩
  | .hbm, ⟨32, _⟩ => ⟨S262144x1000, .f32⟩
  | .hbm, ⟨33, _⟩ => ⟨S262144x1000, .f32⟩
  | .hbm, ⟨34, _⟩ => ⟨S262144x1000, .f32⟩
  | .hbm, ⟨35, _⟩ => ⟨S262144x1000, .f32⟩
  | .hbm, ⟨36, _⟩ => ⟨S262144x1000, .i32⟩
  | .hbm, ⟨37, _⟩ => ⟨S_, .f32⟩
  | .hbm, ⟨38, _⟩ => ⟨S_, .i32⟩
  | .hbm, ⟨39, _⟩ => ⟨S262144, .f32⟩
  | .hbm, ⟨40, _⟩ => ⟨S262144, .i32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1000, .f32⟩
  | .hbm, ⟨45, _⟩ => ⟨S1000, .i1⟩
  | .hbm, ⟨46, _⟩ => ⟨S1000, .f32⟩
  | .hbm, ⟨47, _⟩ => ⟨S_, .f32⟩
  | .hbm, ⟨48, _⟩ => ⟨S_, .f32⟩
  | .hbm, ⟨49, _⟩ => ⟨S1000, .f32⟩
  | .hbm, ⟨50, _⟩ => ⟨S1001, .f32⟩
  | .hbm, ⟨51, _⟩ => ⟨S1000, .f32⟩
  | .hbm, ⟨52, _⟩ => ⟨S_, .f32⟩
  | .hbm, ⟨53, _⟩ => ⟨S_, .f32⟩
  | .hbm, ⟨54, _⟩ => ⟨S1000, .f32⟩
  | .hbm, ⟨55, _⟩ => ⟨S1001, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1000, .f32⟩
  | .hbm, ⟨60, _⟩ => ⟨S_, .f32⟩
  | .hbm, ⟨61, _⟩ => ⟨S_, .f32⟩
  | .hbm, ⟨62, _⟩ => ⟨S1000, .f32⟩
  | .hbm, ⟨63, _⟩ => ⟨S1000, .f32⟩
  | .hbm, ⟨64, _⟩ => ⟨S1000, .f32⟩
  | .hbm, ⟨65, _⟩ => ⟨S_, .f32⟩
  | .hbm, ⟨66, _⟩ => ⟨S_, .f32⟩
  | .hbm, ⟨67, _⟩ => ⟨S1000, .f32⟩
  | .hbm, ⟨68, _⟩ => ⟨S1001, .f32⟩
  | .hbm, ⟨69, _⟩ => ⟨S262144, .f32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S262144x1, .i32⟩
  | .hbm, ⟨78, _⟩ => ⟨S262144, .f32⟩
  | .hbm, ⟨79, _⟩ => ⟨S262144, .f32⟩
  | .hbm, ⟨80, _⟩ => ⟨S_, .i32⟩
  | .hbm, ⟨81, _⟩ => ⟨S262144, .i32⟩
  | .hbm, ⟨82, _⟩ => ⟨S262144, .i1⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S262144, .i32⟩
  | .hbm, ⟨87, _⟩ => ⟨S262144x1, .i32⟩
  | .hbm, ⟨88, _⟩ => ⟨S262144, .f32⟩
  | .hbm, ⟨89, _⟩ => ⟨S_, .i32⟩
  | .hbm, ⟨90, _⟩ => ⟨S262144, .i32⟩
  | .hbm, ⟨91, _⟩ => ⟨S262144, .i1⟩
  | .hbm, ⟨92, _⟩ => ⟨S_, .i32⟩
  | .hbm, ⟨93, _⟩ => ⟨S262144, .i32⟩
  | .hbm, ⟨94, _⟩ => ⟨S262144, .i32⟩
  | .hbm, ⟨95, _⟩ => ⟨S262144, .i32⟩
  | .hbm, ⟨96, _⟩ => ⟨S262144x1, .i32⟩
  | .hbm, ⟨97, _⟩ => ⟨S262144, .f32⟩
  | .hbm, ⟨98, _⟩ => ⟨S262144, .f32⟩
  | .hbm, ⟨99, _⟩ => ⟨S262144x1, .f32⟩
  | .hbm, ⟨100, _⟩ => ⟨S262144x1, .f32⟩
  | .hbm, ⟨101, _⟩ => ⟨S262144x1, .f32⟩
  | .hbm, ⟨102, _⟩ => ⟨S262144x1, .f32⟩
  | .hbm, ⟨103, _⟩ => ⟨S262144x4, .f32⟩
  | .hbm, ⟨104, _⟩ => ⟨S4096x256, .f32⟩
  | .hbm, ⟨105, _⟩ => ⟨S256x512, .f32⟩
  | .hbm, ⟨106, _⟩ => ⟨S4096x512, .f32⟩
  | .hbm, ⟨107, _⟩ => ⟨S1x512, .f32⟩
  | .hbm, ⟨108, _⟩ => ⟨S4096x512, .f32⟩
  | .hbm, ⟨109, _⟩ => ⟨S4096x512, .f32⟩
  | .hbm, ⟨110, _⟩ => ⟨S_, .f32⟩
  | .hbm, ⟨111, _⟩ => ⟨S4096x512, .f32⟩
  | .hbm, ⟨112, _⟩ => ⟨S4096x512, .f32⟩
  | .hbm, ⟨113, _⟩ => ⟨S512x128, .f32⟩
  | .hbm, ⟨114, _⟩ => ⟨S4096x128, .f32⟩
  | .hbm, ⟨115, _⟩ => ⟨S1x128, .f32⟩
  | .hbm, ⟨116, _⟩ => ⟨S4096x128, .f32⟩
  | .hbm, ⟨117, _⟩ => ⟨S4096x128, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_while0c_c_15 : Ref sig .tc := ⟨.hbm, 13, rfl⟩
abbrev main_while0c_v71 : Ref sig .tc := ⟨.hbm, 14, rfl⟩
abbrev main_while0b_cst_15 : Ref sig .tc := ⟨.hbm, 15, rfl⟩
abbrev main_while0b_v71 : Ref sig .tc := ⟨.hbm, 16, rfl⟩
abbrev main_while0b_cst_16 : Ref sig .tc := ⟨.hbm, 17, rfl⟩
abbrev main_while0b_v72 : Ref sig .tc := ⟨.hbm, 18, rfl⟩
abbrev main_while0b_cst_17 : Ref sig .tc := ⟨.hbm, 19, rfl⟩
abbrev main_while0b_v73 : Ref sig .tc := ⟨.hbm, 20, rfl⟩
abbrev main_while0b_cst_18 : Ref sig .tc := ⟨.hbm, 21, rfl⟩
abbrev main_while0b_v74 : Ref sig .tc := ⟨.hbm, 22, rfl⟩
abbrev main_while0b_v75 : Ref sig .tc := ⟨.hbm, 23, rfl⟩
abbrev main_while0b_call1_v0 : Ref sig .tc := ⟨.hbm, 24, rfl⟩
abbrev main_while0b_v76 : Ref sig .tc := ⟨.hbm, 25, rfl⟩
abbrev main_while0b_c_19 : Ref sig .tc := ⟨.hbm, 26, rfl⟩
abbrev main_while0b_v77 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call2_v0 : Ref sig .tc := ⟨.hbm, 36, rfl⟩
abbrev main_call2_cst : Ref sig .tc := ⟨.hbm, 37, rfl⟩
abbrev main_call2_c : Ref sig .tc := ⟨.hbm, 38, rfl⟩
abbrev main_call2_v1_0 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call3_call0_cst : Ref sig .tc := ⟨.hbm, 47, rfl⟩
abbrev main_call3_call0_v0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call4_call0_cst : Ref sig .tc := ⟨.hbm, 52, rfl⟩
abbrev main_call4_call0_v0 : Ref sig .tc := ⟨.hbm, 53, rfl⟩
abbrev main_v18 : Ref sig .tc := ⟨.hbm, 54, rfl⟩
abbrev main_v19 : Ref sig .tc := ⟨.hbm, 55, rfl⟩
abbrev main_cst_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_5 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_call5_call0_cst : Ref sig .tc := ⟨.hbm, 65, rfl⟩
abbrev main_call5_call0_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_6 : Ref sig .tc := ⟨.hbm, 70, rfl⟩
abbrev main_v30 : Ref sig .tc := ⟨.hbm, 71, rfl⟩
abbrev main_v31 : Ref sig .tc := ⟨.hbm, 72, rfl⟩
abbrev main_c_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_8 : Ref sig .tc := ⟨.hbm, 80, rfl⟩
abbrev main_v38 : Ref sig .tc := ⟨.hbm, 81, rfl⟩
abbrev main_v39 : Ref sig .tc := ⟨.hbm, 82, rfl⟩
abbrev main_c_9 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_10 : Ref sig .tc := ⟨.hbm, 89, rfl⟩
abbrev main_v45 : Ref sig .tc := ⟨.hbm, 90, rfl⟩
abbrev main_v46 : Ref sig .tc := ⟨.hbm, 91, rfl⟩
abbrev main_c_11 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩

abbrev nD : Nat := 1
abbrev τ : Topo := Topo.v7x

variable {F : FTy → Type} [FloatOps F]

abbrev main_while0_count : Scf.Loop 32 := ⟨0#32, 999#32, 1#32⟩
-- ==== Proof.Table.lean ====
/- The mathematics of one element: the index of the trajectory entry nearest to it, the running sums at that index, and
   the four features. Nothing here mentions a program. -/
module

public import Idealize.ShloMosaic.Lib.Pointwise

@[expose] public section

noncomputable section

namespace Cert.Table

open Idealize.ShloMosaic

/-! ## The literals -/

/-- The word of 0.5 denotes one half. -/
theorem word_half : Ideal.ofBits .f32 0x3F000000#32 = ((1 / 2 : ℝ) : EReal) := by
  simp [Ideal.ofBits, Ideal.ieee, -EReal.coe_mul]; norm_num

/-- The word of 0.25 denotes one quarter. -/
theorem word_quarter : Ideal.ofBits .f32 0x3E800000#32 = ((1 / 4 : ℝ) : EReal) := by
  simp [Ideal.ofBits, Ideal.ieee, -EReal.coe_mul]; norm_num

/-- The word of 1.25 denotes five quarters. -/
theorem word_five_quarters : Ideal.ofBits .f32 0x3FA00000#32 = ((5 / 4 : ℝ) : EReal) := by
  simp [Ideal.ofBits, Ideal.ieee, -EReal.coe_mul]; norm_num

/-- The word of 2.0 denotes two. -/
theorem word_two : Ideal.ofBits .f32 0x40000000#32 = ((2 : ℝ) : EReal) := by
  simp [Ideal.ofBits, Ideal.ieee, -EReal.coe_mul]; norm_num

/-- The word of the infinity denotes the top element. -/
theorem word_top : Ideal.ofBits .f32 0x7F800000#32 = ⊤ := by
  simp [Ideal.ofBits, Ideal.ieee]

/-- The small number that is added inside the logarithm. -/
def eps : ℝ := 14411519 / 144115188075855872

/-- The word of the small number denotes it. -/
theorem word_eps : Ideal.ofBits .f32 0x2EDBE6FF#32 = ((eps : ℝ) : EReal) := by
  simp [Ideal.ofBits, Ideal.ieee, -EReal.coe_mul, eps]; norm_num

/-! ## The trajectory -/

/-- The trajectory: one half, one, then zero for ever. -/
def traj : ℕ → ℝ
  | 0 => 1 / 2
  | 1 => 1
  | _ + 2 => 0

theorem traj_of_two_le {k : ℕ} (h : 2 ≤ k) : traj k = 0 := by
  obtain ⟨j, rfl⟩ := Nat.exists_eq_add_of_le' h; rfl

/-- The distance of an element from a trajectory entry. -/
def dist (t : ℝ) (v : EReal) : EReal := max ((t : EReal) - v) (-((t : EReal) - v))

/-- The distance may be read from either side. -/
theorem dist_comm (t : ℝ) (v : EReal) : max (v - (t : EReal)) (-(v - (t : EReal))) = dist t v := by
  have h : -(v - (t : EReal)) = (t : EReal) - v := by
    rw [EReal.neg_sub (.inr (EReal.coe_ne_bot t)) (.inr (EReal.coe_ne_top t)), add_comm, sub_eq_add_neg]
  have h' : -((t : EReal) - v) = v - (t : EReal) := by rw [← h, neg_neg]
  rw [dist, h, h', max_comm]

/-- The first index at which the trajectory is nearest to the element. -/
def pick (v : EReal) : Fin 3 :=
  if dist 0 v < (if dist 1 v < dist (1 / 2) v then dist 1 v else dist (1 / 2) v) then 2
  else if dist 1 v < dist (1 / 2) v then 1 else 0

/-! ## The running sums -/

/-- The base-two logarithm of an argument moved up by the small number. -/
def lg (t : ℝ) : ℝ := Real.log (t + eps) / Real.log 2

/-- How many of the first `i` trajectory entries lie above one half. -/
def above : Fin 3 → ℝ := ![0, 0, 1]

/-- The sum of the squares of the first `i` trajectory entries. -/
def energy : Fin 3 → ℝ := ![0, 1 / 4, 5 / 4]

/-- The sum of `t · log₂(t + ε)` over the first `i` trajectory entries. -/
def entropy : Fin 3 → ℝ := ![0, 1 / 2 * lg (1 / 2), 1 / 2 * lg (1 / 2) + 1 * lg 1]

/-- The four features of an element: the fraction of time above the threshold, the energy, the index, the entropy. -/
def feature (v : EReal) : Fin 4 → EReal :=
  ![Ideal.div (above (pick v) : EReal) (((pick v).val : ℝ) : EReal), (energy (pick v) : EReal), (((pick v).val : ℝ) : EReal),
    ((-entropy (pick v) : ℝ) : EReal)]

/-! ## The entropies as single logarithms -/

/-- The entropy of one entry. -/
theorem entropy_one : 1 / 2 * ((Real.log (72057594052339455 / 144115188075855872)) * (Real.log 2)⁻¹) = entropy 1 := by
  show _ = 1 / 2 * lg (1 / 2)
  rw [lg, eps, show (1 / 2 + 14411519 / 144115188075855872 : ℝ) = 72057594052339455 / 144115188075855872 by norm_num]
  field_simp

/-- Twice the half of the entropy of two entries, that half written as one logarithm. -/
theorem entropy_two :
    2 * (1 / 2 * ((Real.log ((Real.sqrt (72057594052339455 / 144115188075855872)) * (144115188090267391 / 144115188075855872)))
      * (Real.log 2)⁻¹)) = entropy 2 := by
  show _ = 1 / 2 * lg (1 / 2) + 1 * lg 1
  rw [Real.log_mul (by positivity) (by norm_num), Real.log_sqrt (by norm_num), lg, lg, eps,
    show (1 / 2 + 14411519 / 144115188075855872 : ℝ) = 72057594052339455 / 144115188075855872 by norm_num,
    show (1 + 14411519 / 144115188075855872 : ℝ) = 144115188090267391 / 144115188075855872 by norm_num]
  field_simp

end Cert.Table

end
-- ==== Proof.Loop.lean ====
/- The reference's loop: what its carried value and its array hold before each run of the condition, and what every buffer
   that the rest of the program reads holds when the loop is left. -/
module

public import proofs.«01_k».proof.Proof.Gen.ReferenceIdeal.Run
public import proofs.«01_k».proof.Proof.Table
public import Idealize.ShloMosaic.Lib.WordCmp
public import Idealize.ShloMosaic.Lib.Tactic.CleanTypes

@[expose] public section

set_option maxRecDepth 16384

noncomputable section

namespace Cert.ReferenceIdeal.Value

open Cert.ReferenceIdeal Cert.ReferenceIdeal.Gen Cert.Table
open Idealize.ShloMosaic Idealize.ShloMosaic.TcCoe Idealize.ShloMosaic.Tactic
open Idealize.ShloMosaic.StableHlo

variable (m : (ℓ : Loc nD τ sig) → Buf (Elt Ideal) ℓ)

/-! ## One step of the map -/

/-- The map takes each trajectory entry to the next. -/
theorem tent_step (k : ℕ) :
    (if (traj k : EReal) < ((1 / 2 : ℝ) : EReal) then Ideal.div (traj k : EReal) ((1 / 2 : ℝ) : EReal)
      else Ideal.div (1 - (traj k : EReal)) ((1 / 2 : ℝ) : EReal)) = (traj (k + 1) : EReal) := by
  rw [Ideal.div_coe (by norm_num), Ideal.div_coe (by norm_num), show (1 : EReal) = ((1 : ℝ) : EReal) from rfl,
    ← EReal.coe_sub, ← EReal.coe_mul, ← EReal.coe_mul]
  simp only [EReal.coe_lt_coe_iff]
  match k with
  | 0 => rw [if_neg (by simp [traj])]; congr 1; norm_num [traj]
  | 1 => rw [if_neg (by norm_num [traj])]; congr 1; norm_num [traj]
  | k + 2 => rw [if_pos (by norm_num [traj])]; congr 1; norm_num [traj]

/-- The body's next value where the carried value is a trajectory entry. -/
theorem res_eq (V0 : Valuation τ sig (Elt Ideal)) (k : ℕ)
    (h : V0 (Proc.devRef .tc main_v1_1) = fun _ => (traj k : EReal)) :
    res_main_while0b_v75 V0 = fun _ => (traj (k + 1) : EReal) := by
  unfold res_main_while0b_v75
  rw [h]
  funext i
  clean_types
  pointwise
  rw [word_half]
  exact tent_step k

/-! ## Before each run of the condition -/

/-- A buffer that neither the condition nor the body writes is as it was at the loop's entry. -/
theorem kept (c : Dev nD) (b : Ref sig .tc) (hc : b ∉ condOps_W) (h0 : b ∉ while0Ops0_W) (h1 : b ∉ while0Ops0_1_W)
    (h2 : b ∉ while0Ops0_2_W) (h3 : b ∉ while0Ops0_3_W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact kept c b hc h0 h1 h2 h3 k

/-- The carried value enters the loop as one half. -/
theorem entry_value (c : Dev nD) : entryContents preI m c (Proc.devRef .tc main_v1_1) = fun _ => (traj 0 : EReal) := by
  simp only [entryContents, afterL_cons, afterL_nil]
  after_reads_simp
  funext i
  exact word_half

/-- Before the `k`-th condition the carried value is the trajectory's entry `k`. -/
theorem loop_value (c : Dev nD) : ∀ k, atK m k c (Proc.devRef .tc main_v1_1) = fun _ => (traj k : EReal)
  | 0 => entry_value m c
  | k + 1 => by
    rw [show atK m (k + 1) c = afterL bodyI (after condOps (atK m k c)) from rfl]
    refine (trip_main_v1_1 _).trans ?_
    exact res_eq _ k ((cond_keeps (atK m k c) main_v1_1 (by decide)).trans (loop_value c k))

/-- The array enters the loop as zeros. -/
theorem entry_array (c : Dev nD) : entryContents preI m c (Proc.devRef .tc main_v1_2) = fun _ => (0 : EReal) := by
  simp only [entryContents, afterL_cons, afterL_nil]
  after_reads_simp
  rw [id]
  funext i
  clean_types
  pointwise

/-- One value written into a vector of 999 at place `k`. -/
theorem write_at (x : FVec Ideal S999 .f32) (v : EReal) (start : Fin 1 → Int) (h : S999.Slices (fun _ => 0) S1) (k : ℕ)
    (hk : k < 999) (hs : ∀ a, start a = (k : ℤ)) (i : Fin 999) :
    Host.dynamicUpdateSlice x (fun _ : S1.Idx => v) start h (ix1 i) = if i.val = k then v else x (ix1 i) := by
  refine (congrFun (WordCmp.dynamicUpdateSlice_eq_update x (fun _ : S1.Idx => v) start h (fun _ => k)
    ⟨rfl, fun a => by fin_cases a; show k + 1 ≤ 999; omega⟩ hs) (ix1 i)).trans ?_
  pointwise
  split <;> split <;> first | rfl | omega

/-- Before the `k`-th condition the array holds the entries `1 … k` in its first `k` places, and zeros. -/
theorem loop_array (c : Dev nD) : ∀ k ≤ 999, ∀ i : Fin 999,
    (atK m k c (Proc.devRef .tc main_v1_2) : FVec Ideal S999 .f32) (ix1 i) = if i.val < k then (traj (i.val + 1) : EReal) else 0
  | 0, _, i => by
    rw [show atK m 0 c (Proc.devRef .tc main_v1_2) = fun _ => (0 : EReal) from entry_array m c]; simp
  | k + 1, hk, i => by
    have ih := loop_array c k (by omega) i
    have hr := res_eq (after condOps (atK m k c)) k ((cond_keeps (atK m k c) main_v1_1 (by decide)).trans (loop_value m c k))
    have hc : after condOps (atK m k c) (Proc.devRef .tc main_v1_0) = fun _ => Scf.iv 0#32 1#32 k :=
      (cond_keeps (atK m k c) main_v1_0 (by decide)).trans (atK_ctr m c k)
    have ha : after condOps (atK m k c) (Proc.devRef .tc main_v1_2) = atK m k c (Proc.devRef .tc main_v1_2) :=
      cond_keeps (atK m k c) main_v1_2 (by decide)
    have hs : (Scf.iv 0#32 1#32 k).toInt = (k : ℤ) := by
      rw [Scf.iv, BitVec.zero_add, BitVec.mul_one, BitVec.toInt_eq_toNat_of_lt] <;> rw [BitVec.toNat_ofNat, Nat.mod_eq_of_lt (by omega)]
      omega
    rw [show atK m (k + 1) c = afterL bodyI (after condOps (atK m k c)) from rfl]
    refine (congrFun (trip_main_v1_2 _) (ix1 i)).trans ?_
    rw [hr, hc, ha, id]
    refine (write_at _ (traj (k + 1) : EReal) _ _ k (by omega) (fun a => by fin_cases a; exact hs) i).trans ?_
    by_cases h : i.val = k
    · rw [if_pos h, if_pos (by omega), h]
    · rw [if_neg h]
      refine ih.trans ?_
      by_cases h' : i.val < k
      · rw [if_pos h', if_pos (by omega)]
      · rw [if_neg h', if_neg (by omega)]

/-! ## When the loop is left -/

/-- Every buffer's contents when the loop is left. -/
def left (c : Dev nD) : Valuation τ sig (Elt Ideal) := after condOps (atK m 999 c)

/-- The array then holds the trajectory's entries 1 … 999. -/
theorem left_array (c : Dev nD) (i : Fin 999) :
    (left m c (Proc.devRef .tc main_v1_2) : FVec Ideal S999 .f32) (ix1 i) = (traj (i.val + 1) : EReal) := by
  have h := loop_array m c 999 (by omega) i
  rw [if_pos i.isLt] at h
  exact (congrFun (cond_keeps (atK m 999 c) main_v1_2 (by decide)) (ix1 i)).trans h

/-- The first entry's constant is one half. -/
theorem left_first (c : Dev nD) : left m c (Proc.devRef .tc main_cst) = fun _ => (traj 0 : EReal) := by
  rw [left, after_of_writes_sub condOps _ condOps_writes (by decide),
    kept m c main_cst (by decide) (by decide) (by decide) (by decide) (by decide)]
  simp only [entryContents, afterL_cons, afterL_nil]
  after_reads_simp
  funext i
  exact word_half

/-- A buffer that no operation up to there writes is as it was at the start. -/
theorem left_argument (c : Dev nD) (b : Ref sig .tc) (hp : b ∉ hostOps0_W) (hc : b ∉ condOps_W) (h0 : b ∉ while0Ops0_W)
    (h1 : b ∉ while0Ops0_1_W) (h2 : b ∉ while0Ops0_2_W) (h3 : b ∉ while0Ops0_3_W) :
    left m c (Proc.devRef .tc b) = m ((c.tc : Thread nD τ).loc b) := by
  rw [left, after_of_writes_sub condOps _ condOps_writes hc, kept m c b hc h0 h1 h2 h3]
  simp only [entryContents, afterL_cons, afterL_nil]
  rw [after_of_writes_sub hostOps0 _ hostOps0_writes hp]

end Cert.ReferenceIdeal.Value

end
-- ==== Proof.Nearest.lean ====
/- The arg-min of the reference: its fold keeps the least value, and of equal values the least index; over the distances from
   the trajectory that index is the first nearest entry. -/
module

public import proofs.«01_k».proof.ReferenceIdeal
public import proofs.«01_k».proof.Proof.Table

@[expose] public section

noncomputable section

namespace Cert.Nearest

open Idealize.ShloMosaic Cert.Table Cert.ReferenceIdeal

/-- One pair is at most another: a smaller value, or the same value and no greater an index. -/
def Le (a b : EReal × BitVec 32) : Prop := a.1 < b.1 ∨ (a.1 = b.1 ∧ a.2.toInt ≤ b.2.toInt)

theorem Le.refl (a : EReal × BitVec 32) : Le a a := .inr ⟨rfl, le_refl _⟩

theorem Le.trans {a b c : EReal × BitVec 32} (h : Le a b) (h' : Le b c) : Le a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The body of the arg-min returns one of its two pairs, and that one is at most both. -/
theorem body_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      simp [reducer_argmin_f32_i32, Ideal.cmpf_def, Ideal.cmp, IntOp.ori, IntOp.andi, Scalar.select, h, h.ne]
    rw [e]
    exact ⟨.inl rfl, Le.refl _, .inl h⟩
  · subst h
    by_cases hs : i.slt j
    · have e : reducer_argmin_f32_i32 (F := Ideal) (x, i) (x, j) = (x, i) := by
        simp [reducer_argmin_f32_i32, Ideal.cmpf_def, Ideal.cmp, IntOp.ori, IntOp.andi, IntOp.cmpi, Scalar.select, hs]
      rw [e]
      exact ⟨.inl rfl, Le.refl _, .inr ⟨rfl, le_of_lt (by simpa [BitVec.slt] using hs)⟩⟩
    · have e : reducer_argmin_f32_i32 (F := Ideal) (x, i) (x, j) = (x, j) := by
        simp [reducer_argmin_f32_i32, Ideal.cmpf_def, Ideal.cmp, IntOp.ori, IntOp.andi, IntOp.cmpi, Scalar.select, hs]
      rw [e]
      exact ⟨.inr rfl, .inr ⟨rfl, by simpa [BitVec.slt] using hs⟩, Le.refl _⟩
  · have e : reducer_argmin_f32_i32 (F := Ideal) (x, i) (y, j) = (y, j) := by
      simp [reducer_argmin_f32_i32, Ideal.cmpf_def, Ideal.cmp, IntOp.ori, IntOp.andi, Scalar.select, not_lt.mpr h.le, h.ne']
    rw [e]
    exact ⟨.inr rfl, .inl h, Le.refl _⟩

/-- The fold of the body returns one of the pairs it meets, and that one is at most all of them. -/
theorem fold_spec (L : List (EReal × BitVec 32)) (a : EReal × BitVec 32) :
    let p := L.foldl (reducer_argmin_f32_i32 (F := Ideal)) a
    (p = a ∨ p ∈ L) ∧ Le p a ∧ ∀ q ∈ L, Le p q := by
  induction L generalizing a with
  | nil => exact ⟨.inl rfl, Le.refl _, by simp⟩
  | cons b L ih =>
    obtain ⟨hm, ha, hL⟩ := ih (reducer_argmin_f32_i32 (F := Ideal) a b)
    obtain ⟨bm, ba, bb⟩ := body_spec a b
    refine ⟨?_, ha.trans ba, fun q hq => ?_⟩
    · rcases hm with hm | hm
      · rcases bm with bm | bm
        · exact .inl (hm.trans bm)
        · exact .inr (List.mem_cons.mpr (.inl (hm.trans bm)))
      · exact .inr (List.mem_cons_of_mem _ hm)
    · rcases List.mem_cons.mp hq with rfl | hq
      · exact ha.trans bb
      · exact hL q hq

/-- A small natural's word reads back as the natural. -/
theorem toInt_word {k : ℕ} (h : k < 1000) : (BitVec.ofNat 32 k).toInt = (k : ℤ) := by
  rw [BitVec.toInt_eq_toNat_of_lt] <;> rw [BitVec.toNat_ofNat, Nat.mod_eq_of_lt (by omega)]
  omega

/-- Over the distances from the first thousand trajectory entries, each beside its index, the fold from the top element
    returns the index of the first nearest entry. -/
theorem fold_pick (v : EReal) (L : List (EReal × BitVec 32))
    (hL : ∀ q, q ∈ L ↔ ∃ k : ℕ, k < 1000 ∧ q = (dist (traj k) v, BitVec.ofNat 32 k)) :
    (L.foldl (reducer_argmin_f32_i32 (F := Ideal)) (⊤, 0#32)).2 = BitVec.ofNat 32 (pick v).val := by
  obtain ⟨hm, -, hle⟩ := fold_spec L (⊤, 0#32)
  generalize L.foldl (reducer_argmin_f32_i32 (F := Ideal)) (⊤, 0#32) = p at hm hle
  have h0 := hle _ ((hL _).mpr ⟨0, by omega, rfl⟩)
  have h1 := hle _ ((hL _).mpr ⟨1, by omega, rfl⟩)
  have h2 := hle _ ((hL _).mpr ⟨2, by omega, rfl⟩)
  simp only [Le, traj, toInt_word (show 0 < 1000 by omega), toInt_word (show 1 < 1000 by omega),
    toInt_word (show 2 < 1000 by omega)] at h0 h1 h2
  have hp : p = (⊤, 0#32) ∨ p = (dist (1 / 2) v, BitVec.ofNat 32 0) ∨ p = (dist 1 v, BitVec.ofNat 32 1)
      ∨ p = (dist 0 v, BitVec.ofNat 32 2) := by
    rcases hm with hm | hm
    · exact .inl hm
    · obtain ⟨k, hk, rfl⟩ := (hL _).mp hm
      match k with
      | 0 => exact .inr (.inl rfl)
      | 1 => exact .inr (.inr (.inl rfl))
      | 2 => exact .inr (.inr (.inr rfl))
      | k + 3 =>
        exfalso
        simp only [traj, toInt_word hk] at h2
        rcases h2 with h2 | ⟨-, h2⟩
        · exact lt_irrefl _ h2
        · push_cast at h2; omega
  generalize hd0 : dist (1 / 2) v = d0 at *
  generalize hd1 : dist 1 v = d1 at *
  generalize hd2 : dist 0 v = d2 at *
  rw [pick, hd0, hd1, hd2]
  rcases hp with rfl | rfl | rfl | rfl
  · have e0 : d0 = ⊤ := by rcases h0 with h | h; exacts [absurd h not_top_lt, h.1.symm]
    have e1 : d1 = ⊤ := by rcases h1 with h | h; exacts [absurd h not_top_lt, h.1.symm]
    have e2 : d2 = ⊤ := by rcases h2 with h | h; exacts [absurd h not_top_lt, h.1.symm]
    simp [e0, e1, e2]
  · have n1 : ¬ d1 < d0 := by rcases h1 with h | h; exacts [not_lt.mpr h.le, not_lt.mpr h.1.le]
    have n2 : ¬ d2 < d0 := by rcases h2 with h | h; exacts [not_lt.mpr h.le, not_lt.mpr h.1.le]
    simp [n1, n2]
  · have n1 : d1 < d0 := by
      rcases h0 with h | h
      · exact h
      · simp [toInt_word (show 1 < 1000 by omega)] at h
    have n2 : ¬ d2 < d1 := by rcases h2 with h | h; exacts [not_lt.mpr h.le, not_lt.mpr h.1.le]
    simp [n1, n2]
  · have n1 : d2 < d1 := by
      rcases h1 with h | h
      · exact h
      · simp [toInt_word (show 2 < 1000 by omega)] at h
    have n0 : d2 < d0 := by
      rcases h0 with h | h
      · exact h
      · simp [toInt_word (show 2 < 1000 by omega)] at h
    have n : d2 < if d1 < d0 then d1 else d0 := by split <;> assumption
    simp [n]

end Cert.Nearest

end
-- ==== Proof.Ops.lean ====
/- Three of the reference's operations read at an element: the row-wise arg-min over the distances, the running sum, and
   the read of a table at an index. -/
module

public import proofs.«01_k».proof.Proof.Nearest
public import proofs.«01_k».proof.Proof.Gen.ReferenceIdeal
public import Idealize.ShloMosaic.Lib.Routing.OpsSearch
public import Idealize.ShloMosaic.Lib.Pointwise.IndexBridge

@[expose] public section

set_option maxRecDepth 16384

noncomputable section

namespace Cert.Ops

open Idealize.ShloMosaic Cert.Table Cert.ReferenceIdeal Cert.Nearest Cert.ReferenceIdeal.Gen

/-! ## The arg-min -/

/-- The arg-min along the rows of an array of distances from the trajectory, with the column's number beside each entry,
    gives each row the index of the first nearest entry. -/
theorem argmin_at (x : FVec Ideal S262144x1000 .f32) (y : IVec S262144x1000 32) (a : FVec Ideal S_ .f32) (b : IVec S_ 32)
    (h : S262144x1000.ReducesTo [1] S262144) (hu : 0 < S_.numel) (v : Fin 262144 → EReal)
    (hx : ∀ p k, x (ix2 p k) = dist (traj k.val) (v p)) (hy : ∀ p k, y (ix2 p k) = BitVec.ofNat 32 k.val)
    (ha : ∀ i, a i = ⊤) (hb : ∀ i, b i = 0#32) (p : Fin 262144) :
    (Host.argReduce (F := Ideal) (φ := .f32) reducer_argmin_f32_i32 x y a b h hu (ix1 p)).2
      = BitVec.ofNat 32 (pick (v p)).val := by
  rw [Ideal.argReduce_eq_reduce2, Host.reduce2_eq_foldl_fiber, ha, hb]
  refine fold_pick (v p) _ fun q => ?_
  have hdrop : ∀ i : S262144x1000.Idx, (h.drop i = ix1 p ↔ (i 0).val = p.val) := fun i => by
    have hv : (h.drop i 0).val = (i 0).val := h.drop_apply_val_of_eq i 0 0
    constructor
    · intro e; rw [← hv, e]; rfl
    · intro e
      funext c
      match c with
      | ⟨0, _⟩ => exact Fin.ext (hv.trans e)
  rw [Host.argReduceFiber, List.mem_map]
  constructor
  · rintro ⟨n, hn, rfl⟩
    have hn' := (hdrop _).mp (of_decide_eq_true (List.mem_filter.mp hn).2)
    generalize S262144x1000.rowMajor.symm n = i at hn'
    have hi : i = ix2 p (i 1) := by
      funext c
      match c with
      | ⟨0, _⟩ => exact Fin.ext hn'
      | ⟨1, _⟩ => rfl
    refine ⟨(i 1).val, (i 1).isLt, ?_⟩
    rw [hi]
    exact Prod.ext (hx p (i 1)) (hy p (i 1))
  · rintro ⟨k, hk, rfl⟩
    refine ⟨S262144x1000.rowMajor (ix2 p ⟨k, hk⟩), List.mem_filter.mpr ⟨List.mem_finRange _, decide_eq_true ?_⟩, ?_⟩
    · rw [Equiv.symm_apply_apply]
      exact (hdrop _).mpr rfl
    · rw [Equiv.symm_apply_apply, hx, hy]

/-! ## The running sum -/

/-- A left fold of additions is the start plus the sum of the terms. -/
theorem fold_add {n : ℕ} (g : Fin n → EReal) (z : EReal) :
    (List.finRange n).foldl (fun r a => r + g a) z = z + ∑ a, g a := by
  rw [Fin.sum_univ_def]
  generalize List.finRange n = L
  induction L generalizing z with
  | nil => simp
  | cons a L ih => rw [List.foldl_cons, ih, List.map_cons, List.sum_cons, add_assoc]

/-- The running sum of a thousand entries, at place `j`: over the window's places `w`, the sum of the entries `j + w − 999`
    that exist. -/
theorem running_sum (x : FVec Ideal S1000 .f32) (f : ℕ → EReal) (hx : ∀ i : Fin 1000, x (ix1 i) = f i.val)
    (z : FVec Ideal S_ .f32) (hz : ∀ i, z i = 0)
    (h : S1000.ReduceWindows (![1000] : Fin 1 → ℕ) ![1] ![999] ![0] S1000) (hu : 0 < S_.numel) (j : Fin 1000) :
    Host.reduceWindowAdd ![1000] ![1] ![999] ![0] x z h hu (ix1 j)
      = ∑ w ∈ Finset.range 1000, if 999 ≤ j.val + w then f (j.val + w - 999) else 0 := by
  have hj := j.isLt
  show Host.reduceWindow (· + ·) ![1000] ![1] ![999] ![0] x (fun _ : (⟨0, ![]⟩ : Shape).Idx => z (Shape.Idx.first hu)) h hu (ix1 j) = _
  unfold Host.reduceWindow
  refine (fold_add _ _).trans ?_
  rw [hz, zero_add, ← Fin.sum_univ_eq_sum_range (fun w => if 999 ≤ j.val + w then f (j.val + w - 999) else 0) 1000]
  refine Fintype.sum_equiv (finCongr (Routing.numel1 1000)) _ _ fun n => ?_
  have hw : ((Routing.shape1 1000).rowMajor.symm n 0).val = n.val := by rw [Routing.symm1]; rfl
  have hn : n.val < 1000 := (n.cast (Routing.numel1 _)).isLt
  show _ = if 999 ≤ j.val + n.val then f (j.val + n.val - 999) else 0
  dsimp only
  split
  · next hin =>
    have h0 := hin 0
    change 999 ≤ j.val * 1 + ((Routing.shape1 1000).rowMajor.symm n 0).val
      ∧ j.val * 1 + ((Routing.shape1 1000).rowMajor.symm n 0).val - 999 < 1000 at h0
    rw [hw] at h0
    rw [if_pos (by omega)]
    refine (congrArg x (funext fun a => Fin.ext ?_)).trans (hx ⟨j.val + n.val - 999, by omega⟩)
    match a with
    | ⟨0, _⟩ =>
      show j.val * 1 + ((Routing.shape1 1000).rowMajor.symm n 0).val - 999 = j.val + n.val - 999
      rw [hw, Nat.mul_one]
  · next hin =>
    rw [if_neg fun hle => hin fun a => by
      match a with
      | ⟨0, _⟩ =>
        show 999 ≤ j.val * 1 + ((Routing.shape1 1000).rowMajor.symm n 0).val
          ∧ j.val * 1 + ((Routing.shape1 1000).rowMajor.symm n 0).val - 999 < 1000
        rw [hw]
        omega]

/-- The running sum's first entry is the first term. -/
theorem running_sum_zero (x : FVec Ideal S1000 .f32) (f : ℕ → EReal) (hx : ∀ i : Fin 1000, x (ix1 i) = f i.val)
    (z : FVec Ideal S_ .f32) (hz : ∀ i, z i = 0)
    (h : S1000.ReduceWindows (![1000] : Fin 1 → ℕ) ![1] ![999] ![0] S1000) (hu : 0 < S_.numel) :
    Host.reduceWindowAdd ![1000] ![1] ![999] ![0] x z h hu (ix1 (0 : Fin 1000)) = f 0 := by
  rw [running_sum x f hx z hz, Finset.sum_range_succ, Finset.sum_eq_zero, zero_add]
  · rfl
  · intro w hw
    rw [if_neg]
    have := Finset.mem_range.mp hw
    show ¬ 999 ≤ 0 + w
    omega

/-- The running sum's second entry is the sum of the first two terms. -/
theorem running_sum_one (x : FVec Ideal S1000 .f32) (f : ℕ → EReal) (hx : ∀ i : Fin 1000, x (ix1 i) = f i.val)
    (z : FVec Ideal S_ .f32) (hz : ∀ i, z i = 0)
    (h : S1000.ReduceWindows (![1000] : Fin 1 → ℕ) ![1] ![999] ![0] S1000) (hu : 0 < S_.numel) :
    Host.reduceWindowAdd ![1000] ![1] ![999] ![0] x z h hu (ix1 (1 : Fin 1000)) = f 0 + f 1 := by
  rw [running_sum x f hx z hz, Finset.sum_range_succ, Finset.sum_range_succ, Finset.sum_eq_zero, zero_add]
  · rfl
  · intro w hw
    rw [if_neg]
    have := Finset.mem_range.mp hw
    show ¬ 999 ≤ 1 + w
    omega

/-! ## The read of a table -/

/-- A table of 1001 entries read at a column of indices, where the index is the word of a place of the table. -/
theorem take_at (x : FVec Ideal S1001 .f32) (idx : IVec S262144x1 32) (p : Fin 262144) (k : ℕ) (hk : k < 1001)
    (hidx : idx (ix2 p (0 : Fin 1)) = BitVec.ofNat 32 k) :
    Host.gather gather_S1001_S262144x1_S262144_n_0_n_n_0_1_1 x idx (ix1 p) = x (ix1 ⟨k, hk⟩) := by
  rw [ix1_eq_valueIdx, ix1_eq_valueIdx]
  rw [ix2_eq_valueIdx] at hidx
  exact Routing.take_ap gather_S1001_S262144x1_S262144_n_0_n_n_0_1_1 rfl rfl rfl rfl x idx p hk (by omega) hidx

end Cert.Ops

end
-- ==== Proof.Network.lean ====
/- The network on one row of elements: four features per element side by side, a hidden layer with the positive part, and
   an output layer. Both programs compute this, row by row. -/
module

public import proofs.«01_k».proof.Proof.Table

@[expose] public section

noncomputable section

namespace Cert.Network

open Idealize.ShloMosaic Cert.Table

/-- The features of a row of 64 elements: lane `j` holds feature `j % 4` of element `j / 4`. -/
def features (v : Fin 64 → EReal) (j : Fin 256) : EReal :=
  feature (v ⟨j.val / 4, by omega⟩) ⟨j.val % 4, by omega⟩

/-- The hidden layer of a row. -/
def hidden (v : Fin 64 → EReal) (w : Fin 512 → Fin 256 → EReal) (b : Fin 512 → EReal) (h : Fin 512) : EReal :=
  max ((∑ j : Fin 256, features v j * w h j) + b h) 0

/-- The output layer of a row. -/
def output (v : Fin 64 → EReal) (w : Fin 512 → Fin 256 → EReal) (b : Fin 512 → EReal) (w' : Fin 128 → Fin 512 → EReal)
    (b' : Fin 128 → EReal) (n : Fin 128) : EReal :=
  (∑ h : Fin 512, hidden v w b h * w' n h) + b' n

end Cert.Network

end
-- ==== Proof.Formula.lean ====
/- The reference's array expressions, from the trajectory and the five arguments to the result, each read at an element. -/
module

public import proofs.«01_k».proof.Proof.Ops
public import proofs.«01_k».proof.Proof.Network

@[expose] public section

set_option maxRecDepth 16384

noncomputable section

namespace Cert.Formula

open Idealize.ShloMosaic Cert.Table Cert.ReferenceIdeal Cert.ReferenceIdeal.Gen

/-! ## The expressions -/

/-- The distances of every element from every trajectory entry. -/
def distances (t : FVec Ideal S1000 .f32) (x : FVec Ideal S4096x64 .f32) : FVec Ideal S262144x1000 .f32 :=
  Host.absf (subf
    (broadcastInDim S262144x1000 ![0, 1] bcast_S1x1000_S262144x1000_0_1 (broadcastInDim S1x1000 ![1] bcast_S1000_S1x1000_1 t))
    (broadcastInDim S262144x1000 ![0, 1] bcast_S262144x1_S262144x1000_0_1
      (broadcastInDim S262144x1 ![0] bcast_S262144_S262144x1_0 (shapeCast S262144 x shapeCasts_S4096x64_S262144))))

/-- The running sum of a thousand terms. -/
def sums (y : FVec Ideal S1000 .f32) : FVec Ideal S1000 .f32 :=
  Host.reduceWindowAdd ![1000] ![1] ![999] ![0] y (broadcastInDim S_ ![] bcast_S_S_ (constant S_ .f32 0x00000000#32))
    reduceWindows_S1000_S1000_w1000s1p999_0 h_S_

/-- The table that begins with a zero and goes on with a running sum. -/
def table (s : FVec Ideal S1000 .f32) : FVec Ideal S1001 .f32 :=
  concatenate S1001 0 [⟨S1, broadcastInDim S1 ![] bcast_S_S1 (constant (F := Ideal) S_ .f32 0x00000000#32)⟩, ⟨S1000, s⟩]
    concatenates_S1_S1000_S1001_d0

/-- One where the trajectory lies above one half, zero elsewhere. -/
def aboves (t : FVec Ideal S1000 .f32) : FVec Ideal S1000 .f32 :=
  uitofp .f32 (cmpf .ogt t (broadcastInDim S1000 ![] bcast_S_S1000 (constant (F := Ideal) S_ .f32 0x3F000000#32)))

/-- The terms of the entropy sum. -/
def entropies (t : FVec Ideal S1000 .f32) : FVec Ideal S1000 .f32 :=
  mulf t (Host.divf (Host.log (addf t (broadcastInDim S1000 ![] bcast_S_S1000 (constant S_ .f32 0x2EDBE6FF#32))))
    (broadcastInDim S1000 ![] bcast_S_S1000 (Host.log (constant (F := Ideal) S_ .f32 0x40000000#32))))

/-- The indices as a column, a negative one counted from the table's end. -/
def column (q : IVec S262144 32) : IVec S262144x1 32 :=
  broadcastInDim S262144x1 ![0] bcast_S262144_S262144x1_0
    (select (cmpi .slt q (broadcastInDim S262144 ![] bcast_S_S262144 (constantI S_ 32 0#32)))
      (addi q (broadcastInDim S262144 ![] bcast_S_S262144 (constantI S_ 32 1001#32))) q)

/-- A table read at the indices. -/
def look (s : FVec Ideal S1001 .f32) (q : IVec S262144 32) : FVec Ideal S262144 .f32 :=
  Host.gather gather_S1001_S262144x1_S262144_n_0_n_n_0_1_1 s (column q)

/-- A vector as a column. -/
def upright (y : FVec Ideal S262144 .f32) : FVec Ideal S262144x1 .f32 :=
  broadcastInDim S262144x1 ![0] bcast_S262144_S262144x1_0 y

/-- The four features of every element, and the rows of them. -/
def rows (q : IVec S262144 32) (s0 s1 s2 : FVec Ideal S1001 .f32) : FVec Ideal S4096x256 .f32 :=
  shapeCast S4096x256
    (concatenate S262144x4 1
      [⟨S262144x1, upright (Host.divf (look s0 q) (sitofp .f32 q))⟩, ⟨S262144x1, upright (look s1 q)⟩,
        ⟨S262144x1, upright (sitofp .f32 q)⟩, ⟨S262144x1, upright (Host.negf (look s2 q))⟩]
      concatenates_S262144x1_S262144x1_S262144x1_S262144x1_S262144x4_d1)
    shapeCasts_S262144x4_S4096x256

/-- The two layers over the rows of features. -/
def layers (f : FVec Ideal S4096x256 .f32) (w : FVec Ideal S512x256 .f32) (b : FVec Ideal S512 .f32)
    (w' : FVec Ideal S128x512 .f32) (b' : FVec Ideal S128 .f32) : FVec Ideal S4096x128 .f32 :=
  addf
    (Host.dotGeneral dot_S4096x512_S512x128_S4096x128_1_0_0_1_n_n none
      (maximumf
        (addf
          (Host.dotGeneral dot_S4096x256_S256x512_S4096x512_1_0_0_1_n_n none f
            (transpose S256x512 [1, 0] w transposes_S512x256_S256x512_1_0))
          (broadcastInDim S4096x512 ![0, 1] bcast_S1x512_S4096x512_0_1 (broadcastInDim S1x512 ![1] bcast_S512_S1x512_1 b)))
        (broadcastInDim S4096x512 ![] bcast_S_S4096x512 (constant S_ .f32 0x00000000#32)))
      (transpose S512x128 [1, 0] w' transposes_S128x512_S512x128_1_0))
    (broadcastInDim S4096x128 ![0, 1] bcast_S1x128_S4096x128_0_1 (broadcastInDim S1x128 ![1] bcast_S128_S1x128_1 b'))

/-! ## The distances -/

/-- The element at a place of the flattened argument. -/
def element (x : FVec Ideal S4096x64 .f32) (p : Fin 262144) : EReal := x (ix2 ⟨p.val / 64, by omega⟩ ⟨p.val % 64, by omega⟩)

/-- The distance of an element from a trajectory entry. -/
theorem distances_at (t : FVec Ideal S1000 .f32) (ht : ∀ k : Fin 1000, t (ix1 k) = (traj k.val : EReal))
    (x : FVec Ideal S4096x64 .f32) (p : Fin 262144) (k : Fin 1000) :
    distances t x (ix2 p k) = dist (traj k.val) (element x p) := by
  pointwise [distances]
  rw [ht]
  rfl

/-! ## The three tables -/

/-- A table's first three entries: zero, the first term, the first two terms. -/
theorem table_at (y : FVec Ideal S1000 .f32) (f : ℕ → EReal) (hy : ∀ i : Fin 1000, y (ix1 i) = f i.val) (k : Fin 3) :
    table (sums y) (ix1 ⟨k.val, by omega⟩) = ![0, f 0, f 0 + f 1] k := by
  have hz : ∀ i, broadcastInDim S_ ![] bcast_S_S_ (constant (F := Ideal) S_ .f32 0x00000000#32) i = 0 := fun i =>
    Ideal.ofBits_zero_f32
  have e0 := Ops.running_sum_zero y f hy _ hz reduceWindows_S1000_S1000_w1000s1p999_0 h_S_
  have e1 := Ops.running_sum_one y f hy _ hz reduceWindows_S1000_S1000_w1000s1p999_0 h_S_
  fin_cases k
  · pointwise [table]
  · pointwise [table]
    exact e0
  · pointwise [table]
    exact e1

/-- The table of the counts above one half, at the first three places. -/
theorem table_above (t : FVec Ideal S1000 .f32) (ht : ∀ k : Fin 1000, t (ix1 k) = (traj k.val : EReal)) (k : Fin 3) :
    table (sums (aboves t)) (ix1 ⟨k.val, by omega⟩) = (above k : EReal) := by
  refine (table_at (aboves t) (fun i => if (1 / 2 : ℝ) < traj i then 1 else 0) (fun i => ?_) k).trans ?_
  · pointwise [aboves]
    rw [ht]
    show (((BitVec.ofBool (decide (Ideal.ofBits .f32 0x3F000000#32 < (traj i.val : EReal)))).toNat : ℝ) : EReal) = _
    simp only [word_half, EReal.coe_lt_coe_iff]
    by_cases h : (1 / 2 : ℝ) < traj i.val
    · rw [if_pos h, decide_eq_true h]; simp
    · rw [if_neg h, decide_eq_false h]; simp
  · fin_cases k
    · simp [above]
    · simp [above, traj]
    · simp [above, traj]
      norm_num

/-- The table of the sums of squares, at the first three places. -/
theorem table_energy (t : FVec Ideal S1000 .f32) (ht : ∀ k : Fin 1000, t (ix1 k) = (traj k.val : EReal)) (k : Fin 3) :
    table (sums (mulf t t)) (ix1 ⟨k.val, by omega⟩) = (energy k : EReal) := by
  refine (table_at (mulf t t) (fun i => (traj i * traj i : ℝ)) (fun i => ?_) k).trans ?_
  · pointwise
    rw [ht, EReal.coe_mul]
  · rw [← EReal.coe_add]
    fin_cases k
    · simp [energy]
    · simp [energy, traj, -EReal.coe_mul]; norm_num
    · simp [energy, traj, -EReal.coe_mul, -EReal.coe_add]; norm_num

/-- The table of the entropy sums, at the first three places. -/
theorem table_entropy (t : FVec Ideal S1000 .f32) (ht : ∀ k : Fin 1000, t (ix1 k) = (traj k.val : EReal)) (k : Fin 3) :
    table (sums (entropies t)) (ix1 ⟨k.val, by omega⟩) = (entropy k : EReal) := by
  refine (table_at (entropies t) (fun i => (traj i * lg (traj i) : ℝ)) (fun i => ?_) k).trans ?_
  · pointwise [entropies]
    rw [ht]
    have hlog : ∀ r : ℝ, 0 < r → Ideal.log (r : EReal) = (Real.log r : EReal) := fun r hr => by
      rw [Ideal.log_coe, if_neg (not_le.mpr hr)]
    have ht0 : 0 ≤ traj i.val := by
      match i.val with
      | 0 => norm_num [traj]
      | 1 => norm_num [traj]
      | k + 2 => norm_num [traj]
    have he : (0 : ℝ) < eps := by norm_num [eps]
    rw [word_eps, word_two, ← EReal.coe_add, hlog _ (by linarith), hlog 2 (by norm_num), Ideal.div_coe, ← EReal.coe_mul]
    · rw [← EReal.coe_mul, mul_one_div]
      rfl
    · exact (Real.log_pos (by norm_num)).ne'
  · rw [← EReal.coe_add]
    fin_cases k
    · simp [entropy]
    · simp [entropy, traj, -EReal.coe_mul]
    · simp [entropy, traj, -EReal.coe_mul, -EReal.coe_add]

/-! ## The features -/

/-- The column of indices holds each element's index. -/
theorem column_at (q : IVec S262144 32) (p : Fin 262144) (k : Fin 3) (hq : q (ix1 p) = BitVec.ofNat 32 k.val) :
    column q (ix2 p (0 : Fin 1)) = BitVec.ofNat 32 k.val := by
  pointwise [column]
  rw [hq]
  fin_cases k <;> rfl

/-- A table read at an element's index. -/
theorem look_at (s : FVec Ideal S1001 .f32) (q : IVec S262144 32) (p : Fin 262144) (k : Fin 3)
    (hq : q (ix1 p) = BitVec.ofNat 32 k.val) : look s q (ix1 p) = s (ix1 ⟨k.val, by omega⟩) :=
  Ops.take_at s _ p k.val (by omega) (column_at q p k hq)

/-- An index's word read as a number. -/
theorem index_value (k : Fin 3) : FloatOps.sitofp (F := Ideal) .f32 (BitVec.ofNat 32 k.val) = ((k.val : ℝ) : EReal) := by
  show (((BitVec.ofNat 32 k.val).toInt : ℝ) : EReal) = _
  rw [Nearest.toInt_word (by omega)]
  norm_cast

/-- The rows of features: lane `j` of row `r` holds feature `j % 4` of the row's element `j / 4`. -/
theorem rows_at (x : FVec Ideal S4096x64 .f32) (q : IVec S262144 32) (s0 s1 s2 : FVec Ideal S1001 .f32)
    (hq : ∀ p, q (ix1 p) = BitVec.ofNat 32 (pick (element x p)).val)
    (h0 : ∀ k : Fin 3, s0 (ix1 ⟨k.val, by omega⟩) = (above k : EReal))
    (h1 : ∀ k : Fin 3, s1 (ix1 ⟨k.val, by omega⟩) = (energy k : EReal))
    (h2 : ∀ k : Fin 3, s2 (ix1 ⟨k.val, by omega⟩) = (entropy k : EReal)) (r : Fin 4096) (j : Fin 256) :
    rows q s0 s1 s2 (ix2 r j) = Network.features (fun d => x (ix2 r d)) j := by
  pointwise [rows, upright]
  have he : element x ⟨r.val * 64 + j.val / 4, by omega⟩ = x (ix2 r ⟨j.val / 4, by omega⟩) := by
    refine congrArg x (congrArg₂ ix2 (Fin.ext ?_) (Fin.ext ?_))
    · show (r.val * 64 + j.val / 4) / 64 = r.val
      omega
    · show (r.val * 64 + j.val / 4) % 64 = j.val / 4
      omega
  have hp := hq ⟨r.val * 64 + j.val / 4, by omega⟩
  rw [he] at hp
  have hc := index_value (pick (x (ix2 r ⟨j.val / 4, by omega⟩)))
  unfold Network.features
  rcases (by omega : j.val % 4 = 0 ∨ j.val % 4 = 1 ∨ j.val % 4 = 2 ∨ j.val % 4 = 3) with h | h | h | h
  · refine Eq.trans ?_ (congrArg (feature (x (ix2 r ⟨j.val / 4, by omega⟩))) (show (⟨j.val % 4, by omega⟩ : Fin 4) = 0 from Fin.ext h)).symm
    refine (dif_pos (by omega)).trans ?_
    exact congrArg₂ Ideal.div ((look_at s0 q _ _ hp).trans (h0 _)) ((congrArg (FloatOps.sitofp (F := Ideal) .f32) hp).trans hc)
  · refine Eq.trans ?_ (congrArg (feature (x (ix2 r ⟨j.val / 4, by omega⟩))) (show (⟨j.val % 4, by omega⟩ : Fin 4) = 1 from Fin.ext h)).symm
    refine (dif_neg (by omega)).trans ((dif_pos (by omega)).trans ?_)
    exact (look_at s1 q _ _ hp).trans (h1 _)
  · refine Eq.trans ?_ (congrArg (feature (x (ix2 r ⟨j.val / 4, by omega⟩))) (show (⟨j.val % 4, by omega⟩ : Fin 4) = 2 from Fin.ext h)).symm
    refine (dif_neg (by omega)).trans ((dif_neg (by omega)).trans ((dif_pos (by omega)).trans ?_))
    exact (congrArg (FloatOps.sitofp (F := Ideal) .f32) hp).trans hc
  · refine Eq.trans ?_ (congrArg (feature (x (ix2 r ⟨j.val / 4, by omega⟩))) (show (⟨j.val % 4, by omega⟩ : Fin 4) = 3 from Fin.ext h)).symm
    refine (dif_neg (by omega)).trans ((dif_neg (by omega)).trans ((dif_neg (by omega)).trans ?_))
    refine (congrArg (fun y : EReal => -y) ((look_at s2 q _ _ hp).trans (h2 _))).trans ?_
    exact (EReal.coe_neg _).symm

/-! ## The layers -/

/-- The two layers over rows of features are the network on each row. -/
theorem layers_at (f : FVec Ideal S4096x256 .f32) (w : FVec Ideal S512x256 .f32) (b : FVec Ideal S512 .f32)
    (w' : FVec Ideal S128x512 .f32) (b' : FVec Ideal S128 .f32) (v : Fin 4096 → Fin 64 → EReal)
    (hf : ∀ r j, f (ix2 r j) = Network.features (v r) j) (r : Fin 4096) (n : Fin 128) :
    layers f w b w' b' (ix2 r n) = Network.output (v r) (fun h j => w (ix2 h j)) (fun h => b (ix1 h)) (fun n h => w' (ix2 n h))
      (fun n => b' (ix1 n)) n := by
  pointwise [layers]
  simp only [hf]
  rfl

end Cert.Formula

end
-- ==== Proof.Stretches.lean ====
/- What the reference computes: its stretches after the loop read one after the other, and the network on each row of the
   first argument as the result. -/
module

public import proofs.«01_k».proof.Proof.Loop
public import proofs.«01_k».proof.Proof.Formula

@[expose] public section

set_option maxRecDepth 16384

noncomputable section

namespace Cert.ReferenceIdeal.Value

open Cert.ReferenceIdeal Cert.ReferenceIdeal.Gen Cert.Table Cert.Formula
open Idealize.ShloMosaic Idealize.ShloMosaic.TcCoe Idealize.ShloMosaic.Tactic
open Idealize.ShloMosaic.StableHlo

/-! ## Which buffers each stretch writes -/

/-- The buffers stretch 1 after the loop writes, in order. -/
abbrev tail1_W : List (Ref sig .tc) :=
  [main_v2, main_v3, main_v4, main_v5, main_v6, main_v7, main_v8, main_v9]

theorem tail1_writes : (hostOps0_1 : List (HloOp τ sig (Elt Ideal))).Forall fun op =>
    op.writes ⊆ (tail1_W.map (Proc.devRef (τ := τ) .tc)).toFinset :=
  forall_writes_sub_of_map rfl

/-- The buffers stretch 2 after the loop writes, in order. -/
abbrev tail2_W : List (Ref sig .tc) :=
  [main_call2_v0, main_call2_cst, main_call2_c, main_call2_v1_0, main_v10]

theorem tail2_writes : (hostOps0_2 : List (HloOp τ sig (Elt Ideal))).Forall fun op =>
    op.writes ⊆ (tail2_W.map (Proc.devRef (τ := τ) .tc)).toFinset :=
  forall_writes_sub_of_map rfl

/-- The buffers stretch 3 after the loop writes, in order. -/
abbrev tail3_W : List (Ref sig .tc) :=
  [main_cst_2, main_v11, main_cst_3, main_v12, main_v13, main_v14]

theorem tail3_writes : (hostOps0_3 : List (HloOp τ sig (Elt Ideal))).Forall fun op =>
    op.writes ⊆ (tail3_W.map (Proc.devRef (τ := τ) .tc)).toFinset :=
  forall_writes_sub_of_map rfl

/-- The buffers stretch 4 after the loop writes, in order. -/
abbrev tail4_W : List (Ref sig .tc) :=
  [main_call3_call0_cst, main_call3_call0_v0, main_v15]

theorem tail4_writes : (hostOps0_4 : List (HloOp τ sig (Elt Ideal))).Forall fun op =>
    op.writes ⊆ (tail4_W.map (Proc.devRef (τ := τ) .tc)).toFinset :=
  forall_writes_sub_of_map rfl

/-- The buffers stretch 5 after the loop writes, in order. -/
abbrev tail5_W : List (Ref sig .tc) :=
  [main_v16, main_v17]

theorem tail5_writes : (hostOps0_5 : List (HloOp τ sig (Elt Ideal))).Forall fun op =>
    op.writes ⊆ (tail5_W.map (Proc.devRef (τ := τ) .tc)).toFinset :=
  forall_writes_sub_of_map rfl

/-- The buffers stretch 6 after the loop writes, in order. -/
abbrev tail6_W : List (Ref sig .tc) :=
  [main_call4_call0_cst, main_call4_call0_v0, main_v18]

theorem tail6_writes : (hostOps0_6 : List (HloOp τ sig (Elt Ideal))).Forall fun op =>
    op.writes ⊆ (tail6_W.map (Proc.devRef (τ := τ) .tc)).toFinset :=
  forall_writes_sub_of_map rfl

/-- The buffers stretch 7 after the loop writes, in order. -/
abbrev tail7_W : List (Ref sig .tc) :=
  [main_v19, main_cst_4, main_v20, main_v21, main_v22, main_cst_5, main_v23, main_v24, main_v25, main_v26]

theorem tail7_writes : (hostOps0_7 : List (HloOp τ sig (Elt Ideal))).Forall fun op =>
    op.writes ⊆ (tail7_W.map (Proc.devRef (τ := τ) .tc)).toFinset :=
  forall_writes_sub_of_map rfl

/-- The buffers stretch 8 after the loop writes, in order. -/
abbrev tail8_W : List (Ref sig .tc) :=
  [main_call5_call0_cst, main_call5_call0_v0, main_v27]

theorem tail8_writes : (hostOps0_8 : List (HloOp τ sig (Elt Ideal))).Forall fun op =>
    op.writes ⊆ (tail8_W.map (Proc.devRef (τ := τ) .tc)).toFinset :=
  forall_writes_sub_of_map rfl

/-- The buffers stretch 9 after the loop writes, in order. -/
abbrev tail9_W : List (Ref sig .tc) :=
  [main_v28, main_v29, main_c_6, main_v30, main_v31, main_c_7, main_v32, main_v33, main_v34, main_v35, main_v36, main_v37,
   main_c_8, main_v38, main_v39, main_c_9, main_v40, main_v41, main_v42, main_v43, main_v44, main_c_10, main_v45, main_v46,
   main_c_11, main_v47, main_v48, main_v49, main_v50, main_v51, main_v52, main_v53, main_v54, main_v55, main_v56, main_v57,
   main_v58, main_v59, main_v60, main_v61, main_v62, main_v63, main_cst_12, main_v64, main_v65, main_v66, main_v67,
   main_v68, main_v69, main_v70]

theorem tail9_writes : (hostOps0_9 : List (HloOp τ sig (Elt Ideal))).Forall fun op =>
    op.writes ⊆ (tail9_W.map (Proc.devRef (τ := τ) .tc)).toFinset :=
  forall_writes_sub_of_map rfl

/-! ## Each stretch's results -/

/-- The trajectory is its first entry followed by the loop's array. -/
theorem read_v2 (X : Valuation τ sig (Elt Ideal)) :
    (after hostOps0_1 X (Proc.devRef .tc main_v2) : FVec Ideal S1000 .f32) = concatenate S1000 0 [⟨S1, X (Proc.devRef .tc main_cst)⟩, ⟨S999, X (Proc.devRef .tc main_v1_2)⟩]
      concatenates_S1_S999_S1000_d0 := by
  after_results

/-- The distances, from the trajectory and the first argument. -/
theorem read_v9 (X : Valuation τ sig (Elt Ideal)) :
    (after hostOps0_1 X (Proc.devRef .tc main_v9) : FVec Ideal S262144x1000 .f32) = distances (concatenate S1000 0 [⟨S1, X (Proc.devRef .tc main_cst)⟩, ⟨S999, X (Proc.devRef .tc main_v1_2)⟩]
      concatenates_S1_S999_S1000_d0) (X (Proc.devRef .tc main_arg0)) := by
  after_results
  rfl

/-- The stretch of the arg-min, with any two functions in the place of the two it computes, leaves the second's value. -/
theorem second_read (X : Valuation τ sig (Elt Ideal))
    (g : FVec Ideal S262144x1000 .f32 → IVec S262144x1000 32 → FVec Ideal S_ .f32 → IVec S_ 32 → FVec Ideal S262144 .f32)
    (g' : FVec Ideal S262144x1000 .f32 → IVec S262144x1000 32 → FVec Ideal S_ .f32 → IVec S_ 32 → IVec S262144 32) :
    after
      [ StableHlo.TRef.nullary (.of main_call2_v0 : StableHlo.TRef sig ⟨S262144x1000, .i32⟩) (iotaInDim S262144x1000 32 1),
        StableHlo.TRef.nullary (.of main_call2_cst : StableHlo.TRef sig ⟨S_, .f32⟩) (constant (F := Ideal) S_ .f32 0x7F800000#32),
        StableHlo.TRef.nullary (.of main_call2_c : StableHlo.TRef sig ⟨S_, .i32⟩) (constantI S_ 32 0#32),
        StableHlo.TRef.quaternary (.of main_v9 : StableHlo.TRef sig ⟨S262144x1000, .f32⟩) (.of main_call2_v0 : StableHlo.TRef sig ⟨S262144x1000, .i32⟩) (.of main_call2_cst : StableHlo.TRef sig ⟨S_, .f32⟩) (.of main_call2_c : StableHlo.TRef sig ⟨S_, .i32⟩) (.of main_call2_v1_0 : StableHlo.TRef sig ⟨S262144, .f32⟩) g,
        StableHlo.TRef.quaternary (.of main_v9 : StableHlo.TRef sig ⟨S262144x1000, .f32⟩) (.of main_call2_v0 : StableHlo.TRef sig ⟨S262144x1000, .i32⟩) (.of main_call2_cst : StableHlo.TRef sig ⟨S_, .f32⟩) (.of main_call2_c : StableHlo.TRef sig ⟨S_, .i32⟩) (.of main_v10 : StableHlo.TRef sig ⟨S262144, .i32⟩) g' ]
      X (Proc.devRef .tc main_v10)
      = g' (X (Proc.devRef .tc main_v9)) (iotaInDim S262144x1000 32 1) (constant (F := Ideal) S_ .f32 0x7F800000#32) (constantI S_ 32 0#32) := by
  after_results
  rfl

/-- The zero that each table begins with. -/
theorem read_v11 (X : Valuation τ sig (Elt Ideal)) :
    (after hostOps0_3 X (Proc.devRef .tc main_v11) : FVec Ideal S1 .f32) = broadcastInDim S1 ![] bcast_S_S1 (constant (F := Ideal) S_ .f32 0x00000000#32) := by
  after_results

/-- The terms of the first table. -/
theorem read_v14 (X : Valuation τ sig (Elt Ideal)) :
    (after hostOps0_3 X (Proc.devRef .tc main_v14) : FVec Ideal S1000 .f32) = aboves (X (Proc.devRef .tc main_v2)) := by
  after_results
  rfl

/-- Their running sum. -/
theorem read_v15 (X : Valuation τ sig (Elt Ideal)) :
    (after hostOps0_4 X (Proc.devRef .tc main_v15) : FVec Ideal S1000 .f32) = sums (X (Proc.devRef .tc main_v14)) := by
  after_results
  rfl

/-- The first table. -/
theorem read_v16 (X : Valuation τ sig (Elt Ideal)) :
    (after hostOps0_5 X (Proc.devRef .tc main_v16) : FVec Ideal S1001 .f32) = concatenate S1001 0 [⟨S1, X (Proc.devRef .tc main_v11)⟩, ⟨S1000, X (Proc.devRef .tc main_v15)⟩]
      concatenates_S1_S1000_S1001_d0 := by
  after_results

/-- The terms of the second table. -/
theorem read_v17 (X : Valuation τ sig (Elt Ideal)) :
    (after hostOps0_5 X (Proc.devRef .tc main_v17) : FVec Ideal S1000 .f32) = mulf (F := Ideal) (φ := .f32) (X (Proc.devRef .tc main_v2)) (X (Proc.devRef .tc main_v2)) := by
  after_results

/-- Their running sum. -/
theorem read_v18 (X : Valuation τ sig (Elt Ideal)) :
    (after hostOps0_6 X (Proc.devRef .tc main_v18) : FVec Ideal S1000 .f32) = sums (X (Proc.devRef .tc main_v17)) := by
  after_results
  rfl

/-- The second table. -/
theorem read_v19 (X : Valuation τ sig (Elt Ideal)) :
    (after hostOps0_7 X (Proc.devRef .tc main_v19) : FVec Ideal S1001 .f32) = concatenate S1001 0 [⟨S1, X (Proc.devRef .tc main_v11)⟩, ⟨S1000, X (Proc.devRef .tc main_v18)⟩]
      concatenates_S1_S1000_S1001_d0 := by
  after_results

/-- The terms of the third table. -/
theorem read_v26 (X : Valuation τ sig (Elt Ideal)) :
    (after hostOps0_7 X (Proc.devRef .tc main_v26) : FVec Ideal S1000 .f32) = entropies (X (Proc.devRef .tc main_v2)) := by
  after_results
  rfl

/-- Their running sum. -/
theorem read_v27 (X : Valuation τ sig (Elt Ideal)) :
    (after hostOps0_8 X (Proc.devRef .tc main_v27) : FVec Ideal S1000 .f32) = sums (X (Proc.devRef .tc main_v26)) := by
  after_results
  rfl

/-! ### The last stretch, in two parts -/

/-- A line of operations cut in two. -/
theorem after_cut (l l' : List (HloOp τ sig (Elt Ideal))) (X : Valuation τ sig (Elt Ideal)) :
    after (l ++ l') X = after l' (after l X) := by
  induction l generalizing X with
  | nil => rfl
  | cons op l ih => exact ih _

/-- The first feature of every element. -/
theorem read_v53 (X : Valuation τ sig (Elt Ideal)) :
    (after (hostOps0_9.take 35) X (Proc.devRef .tc main_v53) : FVec Ideal S262144x1 .f32) = upright (Host.divf (look (X (Proc.devRef .tc main_v16)) (X (Proc.devRef .tc main_v10))) (sitofp .f32 (X (Proc.devRef .tc main_v10)))) := by
  simp only [List.take_succ_cons, List.take_zero]
  after_results
  rfl

/-- The second feature of every element. -/
theorem read_v54 (X : Valuation τ sig (Elt Ideal)) :
    (after (hostOps0_9.take 35) X (Proc.devRef .tc main_v54) : FVec Ideal S262144x1 .f32) = upright (look (X (Proc.devRef .tc main_v19)) (X (Proc.devRef .tc main_v10))) := by
  simp only [List.take_succ_cons, List.take_zero]
  after_results
  rfl

/-- The third feature of every element. -/
theorem read_v55 (X : Valuation τ sig (Elt Ideal)) :
    (after (hostOps0_9.take 35) X (Proc.devRef .tc main_v55) : FVec Ideal S262144x1 .f32) = upright (sitofp .f32 (X (Proc.devRef .tc main_v10))) := by
  simp only [List.take_succ_cons, List.take_zero]
  after_results
  rfl

/-- The fourth feature of every element. -/
theorem read_v56 (X : Valuation τ sig (Elt Ideal)) :
    (after (hostOps0_9.take 35) X (Proc.devRef .tc main_v56) : FVec Ideal S262144x1 .f32) =
      upright (Host.negf (look (concatenate S1001 0 [⟨S1, X (Proc.devRef .tc main_v11)⟩, ⟨S1000, X (Proc.devRef .tc main_v27)⟩]
        concatenates_S1_S1000_S1001_d0) (X (Proc.devRef .tc main_v10)))) := by
  simp only [List.take_succ_cons, List.take_zero]
  after_results
  rfl

/-- The first part writes none of the arguments. -/
theorem front_keeps (X : Valuation τ sig (Elt Ideal)) (b : Ref sig .tc) (hb : b ∉ tail9_W) :
    after (hostOps0_9.take 35) X (Proc.devRef .tc b) = X (Proc.devRef .tc b) :=
  after_of_forall_not_mem _ _ fun op hop hw => by
    have h := List.forall_iff_forall_mem.mp tail9_writes op (List.mem_of_mem_take hop) hw
    rw [List.mem_toFinset, List.mem_map] at h
    obtain ⟨b', hb', e⟩ := h
    exact hb (Proc.devRef_injective .tc e ▸ hb')

/-- The second part: the columns side by side, as rows, through the two layers. -/
theorem read_back (Y : Valuation τ sig (Elt Ideal)) :
    (after (hostOps0_9.drop 35) Y (Proc.devRef .tc main_v70) : FVec Ideal S4096x128 .f32) = layers
      (shapeCast S4096x256
        (concatenate S262144x4 1 [⟨S262144x1, (Y (Proc.devRef .tc main_v53) : FVec Ideal S262144x1 .f32)⟩,
          ⟨S262144x1, (Y (Proc.devRef .tc main_v54) : FVec Ideal S262144x1 .f32)⟩,
          ⟨S262144x1, (Y (Proc.devRef .tc main_v55) : FVec Ideal S262144x1 .f32)⟩,
          ⟨S262144x1, (Y (Proc.devRef .tc main_v56) : FVec Ideal S262144x1 .f32)⟩]
          concatenates_S262144x1_S262144x1_S262144x1_S262144x1_S262144x4_d1)
        shapeCasts_S262144x4_S4096x256)
      (Y (Proc.devRef .tc main_arg1)) (Y (Proc.devRef .tc main_arg2)) (Y (Proc.devRef .tc main_arg3))
      (Y (Proc.devRef .tc main_arg4)) := by
  simp only [List.drop_succ_cons, List.drop_zero]
  after_results
  rfl

/-- The result, from the indices, the tables and the arguments. -/
theorem read_v70 (X : Valuation τ sig (Elt Ideal)) :
    (after hostOps0_9 X (Proc.devRef .tc main_v70) : FVec Ideal S4096x128 .f32) = layers
      (rows (X (Proc.devRef .tc main_v10)) (X (Proc.devRef .tc main_v16)) (X (Proc.devRef .tc main_v19))
        (concatenate S1001 0 [⟨S1, X (Proc.devRef .tc main_v11)⟩, ⟨S1000, X (Proc.devRef .tc main_v27)⟩]
          concatenates_S1_S1000_S1001_d0))
      (X (Proc.devRef .tc main_arg1)) (X (Proc.devRef .tc main_arg2)) (X (Proc.devRef .tc main_arg3))
      (X (Proc.devRef .tc main_arg4)) := by
  have h : after hostOps0_9 X = after (hostOps0_9.drop 35) (after (hostOps0_9.take 35) X) := by
    rw [← after_cut, List.take_append_drop]
  rw [h]
  refine (read_back _).trans ?_
  rw [read_v53, read_v54, read_v55, read_v56, front_keeps X main_arg1 (by decide), front_keeps X main_arg2 (by decide),
    front_keeps X main_arg3 (by decide), front_keeps X main_arg4 (by decide)]
  rfl

end Cert.ReferenceIdeal.Value

end
-- ==== Proof.Reference.lean ====
/- The reference's result: its stretches after the loop one after the other, and the network on each row of the first
   argument as what they leave. -/
module

public import proofs.«01_k».proof.Proof.Stretches

@[expose] public section

set_option maxRecDepth 16384

noncomputable section

namespace Cert.ReferenceIdeal.Value

open Cert.ReferenceIdeal Cert.ReferenceIdeal.Gen Cert.Table Cert.Formula
open Idealize.ShloMosaic Idealize.ShloMosaic.TcCoe Idealize.ShloMosaic.Tactic
open Idealize.ShloMosaic.StableHlo
open Idealize.SL.Sem

/-! ## The contents after each stretch -/

/-- The contents after stretch 1. -/
def past1 (X : Valuation τ sig (Elt Ideal)) : Valuation τ sig (Elt Ideal) := after hostOps0_1 X

/-- Stretch 1 keeps what it does not write. -/
theorem keep1 (X : Valuation τ sig (Elt Ideal)) (b : Ref sig .tc) (hb : b ∉ tail1_W) :
    past1 X (Proc.devRef .tc b) = X (Proc.devRef .tc b) :=
  after_of_writes_sub hostOps0_1 _ tail1_writes hb

/-- The contents after stretch 2. -/
def past2 (X : Valuation τ sig (Elt Ideal)) : Valuation τ sig (Elt Ideal) := after hostOps0_2 (past1 X)

/-- Stretch 2 keeps what it does not write. -/
theorem keep2 (X : Valuation τ sig (Elt Ideal)) (b : Ref sig .tc) (hb : b ∉ tail2_W) :
    past2 X (Proc.devRef .tc b) = past1 X (Proc.devRef .tc b) :=
  after_of_writes_sub hostOps0_2 _ tail2_writes hb

/-- The contents after stretch 3. -/
def past3 (X : Valuation τ sig (Elt Ideal)) : Valuation τ sig (Elt Ideal) := after hostOps0_3 (past2 X)

/-- Stretch 3 keeps what it does not write. -/
theorem keep3 (X : Valuation τ sig (Elt Ideal)) (b : Ref sig .tc) (hb : b ∉ tail3_W) :
    past3 X (Proc.devRef .tc b) = past2 X (Proc.devRef .tc b) :=
  after_of_writes_sub hostOps0_3 _ tail3_writes hb

/-- The contents after stretch 4. -/
def past4 (X : Valuation τ sig (Elt Ideal)) : Valuation τ sig (Elt Ideal) := after hostOps0_4 (past3 X)

/-- Stretch 4 keeps what it does not write. -/
theorem keep4 (X : Valuation τ sig (Elt Ideal)) (b : Ref sig .tc) (hb : b ∉ tail4_W) :
    past4 X (Proc.devRef .tc b) = past3 X (Proc.devRef .tc b) :=
  after_of_writes_sub hostOps0_4 _ tail4_writes hb

/-- The contents after stretch 5. -/
def past5 (X : Valuation τ sig (Elt Ideal)) : Valuation τ sig (Elt Ideal) := after hostOps0_5 (past4 X)

/-- Stretch 5 keeps what it does not write. -/
theorem keep5 (X : Valuation τ sig (Elt Ideal)) (b : Ref sig .tc) (hb : b ∉ tail5_W) :
    past5 X (Proc.devRef .tc b) = past4 X (Proc.devRef .tc b) :=
  after_of_writes_sub hostOps0_5 _ tail5_writes hb

/-- The contents after stretch 6. -/
def past6 (X : Valuation τ sig (Elt Ideal)) : Valuation τ sig (Elt Ideal) := after hostOps0_6 (past5 X)

/-- Stretch 6 keeps what it does not write. -/
theorem keep6 (X : Valuation τ sig (Elt Ideal)) (b : Ref sig .tc) (hb : b ∉ tail6_W) :
    past6 X (Proc.devRef .tc b) = past5 X (Proc.devRef .tc b) :=
  after_of_writes_sub hostOps0_6 _ tail6_writes hb

/-- The contents after stretch 7. -/
def past7 (X : Valuation τ sig (Elt Ideal)) : Valuation τ sig (Elt Ideal) := after hostOps0_7 (past6 X)

/-- Stretch 7 keeps what it does not write. -/
theorem keep7 (X : Valuation τ sig (Elt Ideal)) (b : Ref sig .tc) (hb : b ∉ tail7_W) :
    past7 X (Proc.devRef .tc b) = past6 X (Proc.devRef .tc b) :=
  after_of_writes_sub hostOps0_7 _ tail7_writes hb

/-- The contents after stretch 8. -/
def past8 (X : Valuation τ sig (Elt Ideal)) : Valuation τ sig (Elt Ideal) := after hostOps0_8 (past7 X)

/-- Stretch 8 keeps what it does not write. -/
theorem keep8 (X : Valuation τ sig (Elt Ideal)) (b : Ref sig .tc) (hb : b ∉ tail8_W) :
    past8 X (Proc.devRef .tc b) = past7 X (Proc.devRef .tc b) :=
  after_of_writes_sub hostOps0_8 _ tail8_writes hb

/-- The contents after stretch 9. -/
def past9 (X : Valuation τ sig (Elt Ideal)) : Valuation τ sig (Elt Ideal) := after hostOps0_9 (past8 X)

/-- Stretch 9 keeps what it does not write. -/
theorem keep9 (X : Valuation τ sig (Elt Ideal)) (b : Ref sig .tc) (hb : b ∉ tail9_W) :
    past9 X (Proc.devRef .tc b) = past8 X (Proc.devRef .tc b) :=
  after_of_writes_sub hostOps0_9 _ tail9_writes hb

/-! ## The trajectory and the indices -/

/-- The trajectory: one half, then the entries the loop left. -/
theorem trajectory_at (a : FVec Ideal S1 .f32) (b : FVec Ideal S999 .f32) (ha : ∀ i, a i = (traj 0 : EReal))
    (hb : ∀ i : Fin 999, b (ix1 i) = (traj (i.val + 1) : EReal)) (k : Fin 1000) :
    (concatenate S1000 0 [⟨S1, a⟩, ⟨S999, b⟩] concatenates_S1_S999_S1000_d0 : FVec Ideal S1000 .f32) (ix1 k) = (traj k.val : EReal) := by
  pointwise
  by_cases h : k.val < 1
  · refine (dif_pos h).trans ((ha _).trans ?_)
    rw [show k.val = 0 by omega]
  · refine (dif_neg h).trans ((hb _).trans ?_)
    exact congrArg (fun n : ℕ => ((traj n : ℝ) : EReal)) (show k.val - 1 + 1 = k.val by omega)

/-- Every element's index is that of the trajectory entry nearest to it. -/
theorem indices_at (X : Valuation τ sig (Elt Ideal)) (v : Fin 262144 → EReal)
    (hx : ∀ p k, (X (Proc.devRef .tc main_v9) : FVec Ideal S262144x1000 .f32) (ix2 p k) = dist (traj k.val) (v p))
    (p : Fin 262144) :
    (after hostOps0_2 X (Proc.devRef .tc main_v10) : IVec S262144 32) (ix1 p) = BitVec.ofNat 32 (pick (v p)).val := by
  refine (congrFun (second_read X _ _) (ix1 p)).trans ?_
  exact Ops.argmin_at (X (Proc.devRef .tc main_v9)) (iotaInDim S262144x1000 32 1) (constant (F := Ideal) S_ .f32 0x7F800000#32)
    (constantI S_ 32 0#32) reducesTo_S262144x1000_S262144_d1 h_S_ v hx (fun _ _ => rfl) (fun _ => word_top) (fun _ => rfl) p

/-! ## The result -/

section

variable (X : Valuation τ sig (Elt Ideal))
  (h0 : ∀ i, (X (Proc.devRef .tc main_cst) : FVec Ideal S1 .f32) i = (traj 0 : EReal))
  (h1 : ∀ i : Fin 999, (X (Proc.devRef .tc main_v1_2) : FVec Ideal S999 .f32) (ix1 i) = (traj (i.val + 1) : EReal))

include h0 h1

/-- The trajectory's array, after the first stretch. -/
theorem past_trajectory (k : Fin 1000) :
    (past1 X (Proc.devRef .tc main_v2) : FVec Ideal S1000 .f32) (ix1 k) = (traj k.val : EReal) :=
  (congrFun (read_v2 X) (ix1 k)).trans (trajectory_at _ _ h0 h1 k)

/-- The indices, after the second stretch. -/
theorem past_indices (p : Fin 262144) :
    (past2 X (Proc.devRef .tc main_v10) : IVec S262144 32) (ix1 p)
      = BitVec.ofNat 32 (pick (element (X (Proc.devRef .tc main_arg0)) p)).val :=
  indices_at (past1 X) (element (X (Proc.devRef .tc main_arg0))) (fun p k =>
    (congrFun (read_v9 X) (ix2 p k)).trans (distances_at _ (trajectory_at _ _ h0 h1) _ p k)) p

/-- The first table, after the fifth stretch. -/
theorem past_above (k : Fin 3) :
    (past5 X (Proc.devRef .tc main_v16) : FVec Ideal S1001 .f32) (ix1 ⟨k.val, by omega⟩) = (above k : EReal) := by
  have e11 : past4 X (Proc.devRef .tc main_v11) = broadcastInDim S1 ![] bcast_S_S1 (constant (F := Ideal) S_ .f32 0x00000000#32) :=
    (keep4 X main_v11 (by decide)).trans (read_v11 _)
  have e15 : past4 X (Proc.devRef .tc main_v15) = sums (aboves (past2 X (Proc.devRef .tc main_v2))) :=
    (read_v15 (past3 X)).trans (congrArg sums (read_v14 (past2 X)))
  refine (congrFun (read_v16 (past4 X)) _).trans ?_
  rw [e11, e15]
  exact table_above _ (fun j => (congrFun (keep2 X main_v2 (by decide)) (ix1 j)).trans (past_trajectory X h0 h1 j)) k

/-- The second table, after the seventh stretch. -/
theorem past_energy (k : Fin 3) :
    (past7 X (Proc.devRef .tc main_v19) : FVec Ideal S1001 .f32) (ix1 ⟨k.val, by omega⟩) = (energy k : EReal) := by
  have e11 : past6 X (Proc.devRef .tc main_v11) = broadcastInDim S1 ![] bcast_S_S1 (constant (F := Ideal) S_ .f32 0x00000000#32) :=
    (keep6 X main_v11 (by decide)).trans ((keep5 X main_v11 (by decide)).trans ((keep4 X main_v11 (by decide)).trans (read_v11 _)))
  have e18 : past6 X (Proc.devRef .tc main_v18)
      = sums (mulf (F := Ideal) (φ := .f32) (past4 X (Proc.devRef .tc main_v2)) (past4 X (Proc.devRef .tc main_v2))) :=
    (read_v18 (past5 X)).trans (congrArg sums (read_v17 (past4 X)))
  have e2 : past4 X (Proc.devRef .tc main_v2) = past1 X (Proc.devRef .tc main_v2) :=
    (keep4 X main_v2 (by decide)).trans ((keep3 X main_v2 (by decide)).trans (keep2 X main_v2 (by decide)))
  refine (congrFun (read_v19 (past6 X)) _).trans ?_
  rw [e11, e18, e2]
  exact table_energy _ (past_trajectory X h0 h1) k

/-- The third table, at the last stretch. -/
theorem past_entropy (k : Fin 3) :
    (concatenate S1001 0 [⟨S1, past8 X (Proc.devRef .tc main_v11)⟩, ⟨S1000, past8 X (Proc.devRef .tc main_v27)⟩]
      concatenates_S1_S1000_S1001_d0 : FVec Ideal S1001 .f32) (ix1 ⟨k.val, by omega⟩) = (entropy k : EReal) := by
  have e11 : past8 X (Proc.devRef .tc main_v11) = broadcastInDim S1 ![] bcast_S_S1 (constant (F := Ideal) S_ .f32 0x00000000#32) :=
    (keep8 X main_v11 (by decide)).trans ((keep7 X main_v11 (by decide)).trans ((keep6 X main_v11 (by decide)).trans
      ((keep5 X main_v11 (by decide)).trans ((keep4 X main_v11 (by decide)).trans (read_v11 _)))))
  have e27 : past8 X (Proc.devRef .tc main_v27) = sums (entropies (past6 X (Proc.devRef .tc main_v2))) :=
    (read_v27 (past7 X)).trans (congrArg sums (read_v26 (past6 X)))
  have e2 : past6 X (Proc.devRef .tc main_v2) = past1 X (Proc.devRef .tc main_v2) :=
    (keep6 X main_v2 (by decide)).trans ((keep5 X main_v2 (by decide)).trans ((keep4 X main_v2 (by decide)).trans
      ((keep3 X main_v2 (by decide)).trans (keep2 X main_v2 (by decide)))))
  rw [e11, e27, e2]
  exact table_entropy _ (past_trajectory X h0 h1) k

end

/-- An array that none of the first eight stretches writes. -/
theorem past8_keeps (X : Valuation τ sig (Elt Ideal)) (b : Ref sig .tc) (n1 : b ∉ tail1_W) (n2 : b ∉ tail2_W) (n3 : b ∉ tail3_W)
    (n4 : b ∉ tail4_W) (n5 : b ∉ tail5_W) (n6 : b ∉ tail6_W) (n7 : b ∉ tail7_W) (n8 : b ∉ tail8_W) :
    past8 X (Proc.devRef .tc b) = X (Proc.devRef .tc b) :=
  (keep8 X b n8).trans ((keep7 X b n7).trans ((keep6 X b n6).trans ((keep5 X b n5).trans ((keep4 X b n4).trans
    ((keep3 X b n3).trans ((keep2 X b n2).trans (keep1 X b n1)))))))

/-- From contents with the trajectory in place, the stretches leave the network on each row of the first argument. -/
theorem past_result (X : Valuation τ sig (Elt Ideal))
    (h0 : ∀ i, (X (Proc.devRef .tc main_cst) : FVec Ideal S1 .f32) i = (traj 0 : EReal))
    (h1 : ∀ i : Fin 999, (X (Proc.devRef .tc main_v1_2) : FVec Ideal S999 .f32) (ix1 i) = (traj (i.val + 1) : EReal))
    (r : Fin 4096) (n : Fin 128) :
    (past9 X (Proc.devRef .tc main_v70) : FVec Ideal S4096x128 .f32) (ix2 r n)
      = Network.output (fun d => (X (Proc.devRef .tc main_arg0) : FVec Ideal S4096x64 .f32) (ix2 r d))
          (fun h j => (X (Proc.devRef .tc main_arg1) : FVec Ideal S512x256 .f32) (ix2 h j))
          (fun h => (X (Proc.devRef .tc main_arg2) : FVec Ideal S512 .f32) (ix1 h))
          (fun n h => (X (Proc.devRef .tc main_arg3) : FVec Ideal S128x512 .f32) (ix2 n h))
          (fun n => (X (Proc.devRef .tc main_arg4) : FVec Ideal S128 .f32) (ix1 n)) n := by
  have a1 := past8_keeps X main_arg1 (by decide) (by decide) (by decide) (by decide) (by decide) (by decide) (by decide) (by decide)
  have a2 := past8_keeps X main_arg2 (by decide) (by decide) (by decide) (by decide) (by decide) (by decide) (by decide) (by decide)
  have a3 := past8_keeps X main_arg3 (by decide) (by decide) (by decide) (by decide) (by decide) (by decide) (by decide) (by decide)
  have a4 := past8_keeps X main_arg4 (by decide) (by decide) (by decide) (by decide) (by decide) (by decide) (by decide) (by decide)
  have e10 : past8 X (Proc.devRef .tc main_v10) = past2 X (Proc.devRef .tc main_v10) :=
    (keep8 X main_v10 (by decide)).trans ((keep7 X main_v10 (by decide)).trans ((keep6 X main_v10 (by decide)).trans
      ((keep5 X main_v10 (by decide)).trans ((keep4 X main_v10 (by decide)).trans (keep3 X main_v10 (by decide))))))
  have e16 : past8 X (Proc.devRef .tc main_v16) = past5 X (Proc.devRef .tc main_v16) :=
    (keep8 X main_v16 (by decide)).trans ((keep7 X main_v16 (by decide)).trans (keep6 X main_v16 (by decide)))
  have e19 : past8 X (Proc.devRef .tc main_v19) = past7 X (Proc.devRef .tc main_v19) := keep8 X main_v19 (by decide)
  refine (congrFun (read_v70 (past8 X)) (ix2 r n)).trans ?_
  rw [a1, a2, a3, a4, e10, e16, e19]
  exact layers_at _ _ _ _ _ (fun r d => (X (Proc.devRef .tc main_arg0) : FVec Ideal S4096x64 .f32) (ix2 r d))
    (fun r j => rows_at (X (Proc.devRef .tc main_arg0)) _ _ _ _ (past_indices X h0 h1) (past_above X h0 h1) (past_energy X h0 h1)
      (past_entropy X h0 h1) r j) r n

/-! ## The run -/

variable (m : (ℓ : Loc nD τ sig) → Buf (Elt Ideal) ℓ) (ρ : Dev nD → PrngReg)

/-- What the run leaves, as the contents after the last stretch. -/
theorem final_past (c : Dev nD) (b : DevRef τ sig) :
    finalContents condOps preI bodyI postI 999 m c b = past9 (left m c) b := by
  simp only [past9, past8, past7, past6, past5, past4, past3, past2, past1]
  rfl

/-- An argument ends as it began. -/
theorem final_argument (c : Dev nD) (b : Ref sig .tc) (hp : b ∉ hostOps0_W) (hc : b ∉ condOps_W) (h0 : b ∉ while0Ops0_W)
    (h1 : b ∉ while0Ops0_1_W) (h2 : b ∉ while0Ops0_2_W) (h3 : b ∉ while0Ops0_3_W) (n1 : b ∉ tail1_W) (n2 : b ∉ tail2_W)
    (n3 : b ∉ tail3_W) (n4 : b ∉ tail4_W) (n5 : b ∉ tail5_W) (n6 : b ∉ tail6_W) (n7 : b ∉ tail7_W) (n8 : b ∉ tail8_W)
    (n9 : b ∉ tail9_W) :
    finalContents condOps preI bodyI postI 999 m c (Proc.devRef .tc b) = m ((c.tc : Thread nD τ).loc b) :=
  (final_past m c _).trans ((keep9 _ b n9).trans ((past8_keeps _ b n1 n2 n3 n4 n5 n6 n7 n8).trans
    (left_argument m c b hp hc h0 h1 h2 h3)))

/-- The result array: the network on each row of the first argument. -/
def result (c : Dev nD) : FVec Ideal S4096x128 .f32 := fun y =>
  Network.output (fun d => (m ((c.tc : Thread nD τ).loc main_arg0) : FVec Ideal S4096x64 .f32) (ix2 (y 0) d))
    (fun h j => (m ((c.tc : Thread nD τ).loc main_arg1) : FVec Ideal S512x256 .f32) (ix2 h j))
    (fun h => (m ((c.tc : Thread nD τ).loc main_arg2) : FVec Ideal S512 .f32) (ix1 h))
    (fun n h => (m ((c.tc : Thread nD τ).loc main_arg3) : FVec Ideal S128x512 .f32) (ix2 n h))
    (fun n => (m ((c.tc : Thread nD τ).loc main_arg4) : FVec Ideal S128 .f32) (ix1 n)) (y 1)

/-- The result's buffer ends at that array. -/
theorem final_result (c : Dev nD) :
    finalContents condOps preI bodyI postI 999 m c (Proc.devRef .tc main_v70) = result m c := by
  rw [final_past]
  have ha : ∀ b : Ref sig .tc, b ∈ [main_arg0, main_arg1, main_arg2, main_arg3, main_arg4] →
      left m c (Proc.devRef .tc b) = m ((c.tc : Thread nD τ).loc b) := fun b hb => by
    simp only [List.mem_cons, List.not_mem_nil, or_false] at hb
    rcases hb with rfl | rfl | rfl | rfl | rfl <;>
      exact left_argument m c _ (by decide) (by decide) (by decide) (by decide) (by decide) (by decide)
  have a0 := ha main_arg0 (by simp)
  have a1 := ha main_arg1 (by simp)
  have a2 := ha main_arg2 (by simp)
  have a3 := ha main_arg3 (by simp)
  have a4 := ha main_arg4 (by simp)
  funext y
  have hy : y = ix2 (y 0) (y 1) := by funext a; fin_cases a <;> rfl
  rw [hy]
  refine (past_result (left m c) (fun i => congrFun (left_first m c) i) (left_array m c) (y 0) (y 1)).trans ?_
  rw [a0, a1, a2, a3, a4]
  rfl

/-- Every execution ends with the result array in place and the arguments as they were. -/
theorem run : θ_run (defs (F := Ideal)) (onTc (τ := τ) (main (F := Ideal))) ⟨m, fun _ => 0, ρ⟩ fun r => ∀ c : Dev nD,
    r.2.mem ((c.tc : Thread nD τ).loc main_v70) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  have ha : ∀ (c : Dev nD) (b : Ref sig .tc), b ∈ [main_arg0, main_arg1, main_arg2, main_arg3, main_arg4] →
      finalContents condOps preI bodyI postI 999 m c (Proc.devRef .tc b) = m ((c.tc : Thread nD τ).loc b) := fun c b hb => by
    simp only [List.mem_cons, List.not_mem_nil, or_false] at hb
    rcases hb with rfl | rfl | rfl | rfl | rfl <;>
      exact final_argument m c _ (by decide) (by decide) (by decide) (by decide) (by decide) (by decide) (by decide) (by decide)
        (by decide) (by decide) (by decide) (by decide) (by decide) (by decide) (by decide)
  exact (θ_run defs _ _).mono (fun r h c => ⟨(h c main_v70 rfl).trans (final_result m c),
    (h c main_arg0 rfl).trans (ha c main_arg0 (by simp)), (h c main_arg1 rfl).trans (ha c main_arg1 (by simp)),
    (h c main_arg2 rfl).trans (ha c main_arg2 (by simp)), (h c main_arg3 rfl).trans (ha c main_arg3 (by simp)),
    (h c main_arg4 rfl).trans (ha c main_arg4 (by simp))⟩) (run_fold m ρ)

end Cert.ReferenceIdeal.Value

end
-- ==== Proof.Element.lean ====
/- The kernel's block of elements, one element at a time: its comparisons pick the nearest trajectory entry, and its
   selected constants are the running sums there. -/
module

public import proofs.«01_k».proof.Proof.Network
public import proofs.«01_k».proof.Proof.Gen.KernelIdeal.Frame
public import Idealize.ShloMosaic.Lib.Pointwise

@[expose] public section

set_option maxRecDepth 16384

noncomputable section

namespace Cert.Element

open Idealize.ShloMosaic Cert.Table Cert.KernelIdeal Cert.KernelIdeal.Gen

/-! ## Selection -/

/-- A choice by a decided word. -/
theorem select_word {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The kernel's two choices, one after the other, take the entry of the picked index. -/
theorem select_pick {α : Type} (v : EReal) (a b c : α) :
    Scalar.select (BitVec.ofBool (decide (dist 0 v < if dist 1 v < dist (1 / 2) v then dist 1 v else dist (1 / 2) v))) c
      (Scalar.select (BitVec.ofBool (decide (dist 1 v < dist (1 / 2) v))) b a) = ![a, b, c] (pick v) := by
  rw [select_word, select_word]
  unfold pick
  by_cases h : dist 0 v < if dist 1 v < dist (1 / 2) v then dist 1 v else dist (1 / 2) v
  · rw [if_pos h, if_pos h]; rfl
  · rw [if_neg h, if_neg h]
    by_cases h' : dist 1 v < dist (1 / 2) v
    · rw [if_pos h', if_pos h']; rfl
    · rw [if_neg h', if_neg h']; rfl

/-! ## The named constants -/

/-- The first named constant is the entropy sum over one entry. -/
theorem named_one : (Named.named (F := Ideal) (φ := .f32) κ "ent1" 0xBF000000#32 : EReal) = (entropy 1 : EReal) := by
  rw [← entropy_one]; rfl

/-- Twice the second named constant is the entropy sum over two entries. -/
theorem named_two :
    Ideal.ofBits .f32 0x40000000#32 * (Named.named (F := Ideal) (φ := .f32) κ "half_ent2" 0xBE800000#32 : EReal) = (entropy 2 : EReal) := by
  rw [word_two, ← entropy_two, EReal.coe_mul]; rfl

/-! ## One element -/

section

variable (x : FVec Ideal S2048x64 .f32) (r : Fin 2048) (d : Fin 64)

/-- The distance from one half. -/
theorem half_at : k0_pay2 (F := Ideal) x (ix2 r d) = dist (1 / 2) (x (ix2 r d)) := by
  pointwise [k0_pay2]
  rw [word_half]
  exact dist_comm _ _

/-- The distance from one. -/
theorem one_at : k0_pay3 (F := Ideal) x (ix2 r d) = dist 1 (x (ix2 r d)) := by
  pointwise [k0_pay3]
  exact dist_comm 1 _

/-- Whether one is nearer than one half. -/
theorem first_at : k0_pay4 (F := Ideal) x (ix2 r d)
    = BitVec.ofBool (decide (dist 1 (x (ix2 r d)) < dist (1 / 2) (x (ix2 r d)))) := by
  pointwise [k0_pay4]
  rw [half_at, one_at]

/-- Whether zero is nearer than the nearer of those two. -/
theorem second_at : k0_pay5 (F := Ideal) x (ix2 r d)
    = BitVec.ofBool (decide (dist 0 (x (ix2 r d)) < if dist 1 (x (ix2 r d)) < dist (1 / 2) (x (ix2 r d))
        then dist 1 (x (ix2 r d)) else dist (1 / 2) (x (ix2 r d)))) := by
  have h0 : max (x (ix2 r d)) (-(x (ix2 r d))) = dist 0 (x (ix2 r d)) := by
    rw [← dist_comm, EReal.coe_zero, sub_zero]
  pointwise [k0_pay5]
  rw [first_at, one_at, half_at, select_word, ← h0]
  rfl

/-- The index. -/
theorem index_at : k0_pay6 (F := Ideal) x (ix2 r d) = (((pick (x (ix2 r d))).val : ℝ) : EReal) := by
  pointwise [k0_pay6]
  rw [first_at, second_at, select_pick, word_two]
  generalize pick (x (ix2 r d)) = k
  fin_cases k <;> simp

/-- The kernel's two choices at an element take the entry of the picked index. -/
theorem choice (a b c : EReal) :
    Scalar.select (k0_pay5 (F := Ideal) x (ix2 r d)) c (Scalar.select (k0_pay4 (F := Ideal) x (ix2 r d)) b a)
      = ![a, b, c] (pick (x (ix2 r d))) := by
  rw [first_at, second_at, select_pick]

/-- The count above one half. -/
theorem above_at : Scalar.select (k0_pay5 (F := Ideal) x (ix2 r d)) (1 : EReal) 0 = (above (pick (x (ix2 r d))) : EReal) := by
  have e := choice x r d (0 : EReal) 0 1
  rw [first_at, select_word, ite_self] at e
  refine e.trans ?_
  generalize pick (x (ix2 r d)) = k
  fin_cases k <;> simp [above]

/-- The energy. -/
theorem energy_at : Scalar.select (k0_pay5 (F := Ideal) x (ix2 r d)) (Ideal.ofBits .f32 0x3FA00000#32)
    (Scalar.select (k0_pay4 (F := Ideal) x (ix2 r d)) (Ideal.ofBits .f32 0x3E800000#32) 0)
      = (energy (pick (x (ix2 r d))) : EReal) := by
  rw [choice, word_quarter, word_five_quarters]
  generalize pick (x (ix2 r d)) = k
  fin_cases k <;> simp [energy]

/-- The negated entropy. -/
theorem entropy_at : (0 : EReal) - Scalar.select (k0_pay5 (F := Ideal) x (ix2 r d))
    (Ideal.ofBits .f32 0x40000000#32 * (Named.named (F := Ideal) (φ := .f32) κ "half_ent2" 0xBE800000#32 : EReal))
    (Scalar.select (k0_pay4 (F := Ideal) x (ix2 r d))
      (Named.named (F := Ideal) (φ := .f32) κ "ent1" 0xBF000000#32 : EReal) 0)
      = ((-entropy (pick (x (ix2 r d))) : ℝ) : EReal) := by
  rw [choice, named_one, named_two, EReal.coe_neg, zero_sub]
  generalize pick (x (ix2 r d)) = k
  fin_cases k
  · show -(0 : EReal) = -((0 : ℝ) : EReal)
    rw [EReal.coe_zero]
  · rfl
  · rfl

end

/-- The four blocks side by side, at an element: the count, the energy, the index, the negated entropy. -/
def stack (v : EReal) : Fin 4 → EReal :=
  ![(above (pick v) : EReal), (energy (pick v) : EReal), (((pick v).val : ℝ) : EReal), ((-entropy (pick v) : ℝ) : EReal)]

theorem stack_congr (x : FVec Ideal S2048x64 .f32) (r : Fin 2048) (d d' : Fin 64) (hd : d.val = d'.val) (k k' : Fin 4)
    (hk : k.val = k'.val) : stack (x (ix2 r d)) k = stack (x (ix2 r d')) k' := by
  rw [Fin.ext hd, Fin.ext hk]

/-- Lane `l` of the four blocks side by side: block `l / 64`, element `l % 64`. -/
theorem stack_at (x : FVec Ideal S2048x64 .f32) (r : Fin 2048) (l : Fin 256) :
    k0_pay7 (F := Ideal) x (ix2 r l) = stack (x (ix2 r ⟨l.val % 64, by omega⟩)) ⟨l.val / 64, by omega⟩ := by
  pointwise [k0_pay7]
  rcases (by omega : l.val / 64 = 0 ∨ l.val / 64 = 1 ∨ l.val / 64 = 2 ∨ l.val / 64 = 3) with h | h | h | h
  · refine (dif_pos (by omega)).trans ((above_at x r ⟨l.val, by omega⟩).trans ?_)
    exact stack_congr x r _ _ (show l.val = l.val % 64 by omega) 0 _ h.symm
  · refine (dif_neg (by omega)).trans ((dif_pos (by omega)).trans ((energy_at x r ⟨l.val - 64, by omega⟩).trans ?_))
    exact stack_congr x r _ _ (show l.val - 64 = l.val % 64 by omega) 1 _ h.symm
  · refine (dif_neg (by omega)).trans ((dif_neg (by omega)).trans ((dif_pos (by omega)).trans
      ((index_at x r ⟨l.val - 64 - 64, by omega⟩).trans ?_)))
    exact stack_congr x r _ _ (show l.val - 64 - 64 = l.val % 64 by omega) 2 _ h.symm
  · refine (dif_neg (by omega)).trans ((dif_neg (by omega)).trans ((dif_neg (by omega)).trans
      ((entropy_at x r ⟨l.val - 64 - 64 - 64, by omega⟩).trans ?_)))
    exact stack_congr x r _ _ (show l.val - 64 - 64 - 64 = l.val % 64 by omega) 3 _ h.symm

end Cert.Element

end
-- ==== Proof.Block.lean ====
/- The kernel's block of rows: the two products with zero-one matrices move the four blocks side by side into lane order, and
   the two layers over them are the network on each row. -/
module

public import proofs.«01_k».proof.Proof.Element

@[expose] public section

set_option maxRecDepth 16384

noncomputable section

namespace Cert.Block

open Idealize.ShloMosaic Cert.Table Cert.KernelIdeal Cert.KernelIdeal.Gen

/-! ## The integer words -/

/-- Whether a lane's word is a multiple of four. -/
theorem lane_word : ∀ a : Fin 256, IntOp.cmpi CmpIPredicate.eq
    (Scalar.select
      (IntOp.andi (IntOp.xori (IntOp.cmpi CmpIPredicate.slt (IntOp.remsi ArithUnit.vector (BitVec.ofNat 32 a.val) (Scalar.select (Scalar.cmpi CmpIPredicate.eq 4#32 0#32) 1#32 4#32)) 0#32) (Scalar.cmpi CmpIPredicate.slt (Scalar.select (Scalar.cmpi CmpIPredicate.eq 4#32 0#32) 1#32 4#32) 0#32))
        (IntOp.cmpi CmpIPredicate.ne (IntOp.remsi ArithUnit.vector (BitVec.ofNat 32 a.val) (Scalar.select (Scalar.cmpi CmpIPredicate.eq 4#32 0#32) 1#32 4#32)) 0#32))
      (IntOp.addi (IntOp.remsi ArithUnit.vector (BitVec.ofNat 32 a.val) (Scalar.select (Scalar.cmpi CmpIPredicate.eq 4#32 0#32) 1#32 4#32)) (Scalar.select (Scalar.cmpi CmpIPredicate.eq 4#32 0#32) 1#32 4#32)) (IntOp.remsi ArithUnit.vector (BitVec.ofNat 32 a.val) (Scalar.select (Scalar.cmpi CmpIPredicate.eq 4#32 0#32) 1#32 4#32))) 0#32
      = BitVec.ofBool (decide (a.val % 4 = 0)) := by
  decide +kernel

/-- The lane that line `a` of the reordering matrix is moved to. -/
theorem target_word : ∀ a : Fin 256, IntOp.addi (IntOp.muli (4#32)
    (Scalar.select
      (IntOp.andi (IntOp.xori (IntOp.cmpi CmpIPredicate.slt (IntOp.remsi ArithUnit.vector (BitVec.ofNat 32 a.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 a.val) (Scalar.select (Scalar.cmpi CmpIPredicate.eq 64#32 0#32) 1#32 64#32)) 0#32))
      (IntOp.addi (IntOp.remsi ArithUnit.vector (BitVec.ofNat 32 a.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 a.val) (Scalar.select (Scalar.cmpi CmpIPredicate.eq 64#32 0#32) 1#32 64#32))))
    (Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32) (IntOp.divsi ArithUnit.vector (BitVec.ofNat 32 a.val) 64#32))
      = BitVec.ofNat 32 (4 * (a.val % 64) + a.val / 64) := by
  decide +kernel

/-- Four times a row's word. -/
theorem quadruple_word : ∀ a : Fin 64, IntOp.muli (4#32) (BitVec.ofNat 32 a.val) = BitVec.ofNat 32 (4 * a.val) := by
  decide +kernel

/-- A comparison of two small words, as a number: one where they agree, zero where not. -/
theorem agree_value (a b : ℕ) (ha : a < 1024) (hb : b < 1024) :
    FloatOps.sitofp (F := Ideal) .f32 (BitVec.setWidth 32 (IntOp.cmpi CmpIPredicate.eq (BitVec.ofNat 32 a) (BitVec.ofNat 32 b)))
      = if a = b then (1 : EReal) else 0 := by
  have h : (BitVec.ofNat 32 a = BitVec.ofNat 32 b) ↔ a = b := by
    constructor
    · intro e
      have := congrArg BitVec.toNat e
      rw [BitVec.toNat_ofNat, BitVec.toNat_ofNat, Nat.mod_eq_of_lt (by omega), Nat.mod_eq_of_lt (by omega)] at this
      exact this
    · rintro rfl; rfl
  show (((BitVec.setWidth 32 (BitVec.ofBool (BitVec.ofNat 32 a == BitVec.ofNat 32 b))).toInt : ℝ) : EReal) = _
  by_cases e : a = b
  · rw [if_pos e, beq_iff_eq.mpr (h.mpr e)]
    simp
  · rw [if_neg e, beq_eq_false_iff_ne.mpr fun e' => e (h.mp e')]
    simp

/-! ## The zero-one matrices -/

/-- A sum against a line of a zero-one matrix with a single one. -/
theorem sum_single {n : ℕ} (f : Fin n → EReal) (p : Fin n → Prop) [DecidablePred p] (k : Fin n) (h : ∀ i, p i ↔ i = k) :
    ∑ i, f i * (if p i then (1 : EReal) else 0) = f k := by
  rw [Finset.sum_eq_single k]
  · rw [if_pos ((h k).mpr rfl), mul_one]
  · intro i _ hi
    rw [if_neg fun e => hi ((h i).mp e), mul_zero]
  · intro hk
    exact absurd (Finset.mem_univ k) hk

/-- The reordering matrix: line `a` has its one at lane `4 (a % 64) + a / 64`. -/
theorem reorder_at (a b : Fin 256) :
    k0_pay8 (F := Ideal) (iota .tc S256x256 32 [0] iota_S256x256_d0_w32) (iota .tc S256x256 32 [1] iota_S256x256_d1_w32) (ix2 a b)
      = if b.val = 4 * (a.val % 64) + a.val / 64 then (1 : EReal) else 0 := by
  pointwise [k0_pay8]
  refine Eq.trans ?_ (agree_value b.val (4 * (a.val % 64) + a.val / 64) (by omega) (by omega))
  exact congrArg (fun w => FloatOps.sitofp (F := Ideal) .f32 (BitVec.setWidth 32 (IntOp.cmpi CmpIPredicate.eq (BitVec.ofNat 32 b.val) w)))
    (target_word a)

/-- The features of a row, from the four blocks side by side and the indices. -/
theorem feature_lane (v : Fin 64 → EReal) (j : Fin 256) :
    (if j.val % 4 = 0 then
        Ideal.div (Element.stack (v ⟨j.val / 4, by omega⟩) ⟨j.val % 4, by omega⟩) (((pick (v ⟨j.val / 4, by omega⟩)).val : ℝ) : EReal)
      else Element.stack (v ⟨j.val / 4, by omega⟩) ⟨j.val % 4, by omega⟩) = Network.features v j := by
  unfold Network.features
  have hk : ∀ k : Fin 4, (if k.val = 0 then
        Ideal.div (Element.stack (v ⟨j.val / 4, by omega⟩) k) (((pick (v ⟨j.val / 4, by omega⟩)).val : ℝ) : EReal)
      else Element.stack (v ⟨j.val / 4, by omega⟩) k) = feature (v ⟨j.val / 4, by omega⟩) k := fun k => by
    fin_cases k <;> rfl
  exact hk ⟨j.val % 4, by omega⟩

/-! ## The two layers -/

/-- The block before the last bias: the output layer's products over the hidden layer of each row. -/
theorem product_at (x : FVec Ideal S2048x64 .f32) (w : FVec Ideal S512x256 .f32) (b : FVec Ideal S1x512 .f32)
    (w' : FVec Ideal S128x512 .f32) (r : Fin 2048) (n : Fin 128) :
    k0_pay9 (F := Ideal) (k0_pay6 (F := Ideal) x) (k0_pay7 (F := Ideal) x)
      (k0_pay8 (F := Ideal) (iota .tc S256x256 32 [0] iota_S256x256_d0_w32) (iota .tc S256x256 32 [1] iota_S256x256_d1_w32))
      w b w' (ix2 r n)
      = ∑ h : Fin 512, Network.hidden (fun d => x (ix2 r d)) (fun h j => w (ix2 h j)) (fun h => b (ix2 (0 : Fin 1) h)) h * w' (ix2 n h) := by
  have h7 := Element.stack_at x r
  have h6 := fun d => Element.index_at x r d
  have h8 := reorder_at
  generalize k0_pay7 (F := Ideal) x = s at h7 ⊢
  generalize k0_pay6 (F := Ideal) x = q at h6 ⊢
  generalize k0_pay8 (F := Ideal) (iota .tc S256x256 32 [0] iota_S256x256_d0_w32) (iota .tc S256x256 32 [1] iota_S256x256_d1_w32) = t at h8 ⊢
  pointwise [k0_pay9]
  unfold Network.hidden
  refine Finset.sum_congr rfl fun h _ => congrArg (· * w' (ix2 n h)) (congrArg (max · (0 : EReal)) (congrArg (· + b (ix2 (0 : Fin 1) h))
    (Finset.sum_congr rfl fun j _ => congrArg (· * w (ix2 h j)) ?_)))
  have hs : ∑ a : Fin 256, s (ix2 r a) * t (ix2 a j)
      = Element.stack (x (ix2 r ⟨j.val / 4, by omega⟩)) ⟨j.val % 4, by omega⟩ := by
    simp only [h8]
    refine (sum_single (fun a => s (ix2 r a)) (fun a : Fin 256 => j.val = 4 * (a.val % 64) + a.val / 64)
      ⟨64 * (j.val % 4) + j.val / 4, by omega⟩ fun a => ?_).trans ((h7 _).trans ?_)
    · rw [Fin.ext_iff]
      show _ ↔ a.val = 64 * (j.val % 4) + j.val / 4
      omega
    · exact Element.stack_congr x r _ _ (show (64 * (j.val % 4) + j.val / 4) % 64 = j.val / 4 by omega) _ _
        (show (64 * (j.val % 4) + j.val / 4) / 64 = j.val % 4 by omega)
  have hq : j.val % 4 = 0 → ∑ d : Fin 64, q (ix2 r d) * FloatOps.sitofp (F := Ideal) .f32 (BitVec.setWidth 32
      (IntOp.cmpi CmpIPredicate.eq (BitVec.ofNat 32 j.val) (IntOp.muli (4#32) (BitVec.ofNat 32 d.val))))
      = (((pick (x (ix2 r ⟨j.val / 4, by omega⟩))).val : ℝ) : EReal) := fun hj => by
    refine Eq.trans ?_ ((sum_single (fun d => q (ix2 r d)) (fun d : Fin 64 => j.val = 4 * d.val)
      ⟨j.val / 4, by omega⟩ fun d => ?_).trans (h6 _))
    · refine Finset.sum_congr rfl fun d _ => congrArg (q (ix2 r d) * ·) ?_
      rw [quadruple_word]
      exact agree_value j.val (4 * d.val) (by omega) (by omega)
    · rw [Fin.ext_iff]
      show _ ↔ d.val = j.val / 4
      omega
  refine Eq.trans ?_ (feature_lane (fun d => x (ix2 r d)) j)
  rw [lane_word j, Element.select_word]
  by_cases hj : j.val % 4 = 0
  · rw [if_pos hj, if_pos hj]
    exact congrArg₂ Ideal.div hs (hq hj)
  · rw [if_neg hj, if_neg hj]
    exact hs

/-- The block the kernel stores: the network on each of its rows. -/
theorem stored_at (x : FVec Ideal S2048x64 .f32) (w : FVec Ideal S512x256 .f32) (b : FVec Ideal S1x512 .f32)
    (w' : FVec Ideal S128x512 .f32) (b' : FVec Ideal S1x128 .f32) (r : Fin 2048) (n : Fin 128) :
    k0_pay1 (F := Ideal) (k0_pay9 (F := Ideal) (k0_pay6 (F := Ideal) x) (k0_pay7 (F := Ideal) x)
      (k0_pay8 (F := Ideal) (iota .tc S256x256 32 [0] iota_S256x256_d0_w32) (iota .tc S256x256 32 [1] iota_S256x256_d1_w32))
      w b w') b' (ix2 r n)
      = Network.output (fun d => x (ix2 r d)) (fun h j => w (ix2 h j)) (fun h => b (ix2 (0 : Fin 1) h)) (fun n h => w' (ix2 n h))
          (fun n => b' (ix2 (0 : Fin 1) n)) n := by
  have h := product_at x w b w' r n
  generalize k0_pay9 (F := Ideal) (k0_pay6 (F := Ideal) x) (k0_pay7 (F := Ideal) x)
    (k0_pay8 (F := Ideal) (iota .tc S256x256 32 [0] iota_S256x256_d0_w32) (iota .tc S256x256 32 [1] iota_S256x256_d1_w32)) w b w' = y at h ⊢
  pointwise [k0_pay1]
  rw [h]
  rfl

end Cert.Block

end
-- ==== Proof.Array.lean ====
/- The kernel's result array: the stored blocks cover it, and each is the network on its rows of the first argument. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ)

/-! ## The two biases, laid as one-row arrays -/

/-- The hidden bias. -/
theorem hidden_bias (c : Dev nD) (h : Fin 512) : (V m c main_v0 : FVec Ideal S1x512 .f32) (ix2 (0 : Fin 1) h)
    = (m ((c.tc : Thread nD τ).loc main_arg2) : FVec Ideal S512 .f32) (ix1 h) := by
  unfold V
  after_results
  show shapeCast S1x512 (m ((c.tc : Thread nD τ).loc main_arg2) : FVec Ideal S512 .f32) shapeCasts_S512_S1x512 (ix2 (0 : Fin 1) h) = _
  generalize (m ((c.tc : Thread nD τ).loc main_arg2) : FVec Ideal S512 .f32) = b
  pointwise

/-- The output bias. -/
theorem output_bias (c : Dev nD) (n : Fin 128) : (V m c main_v1 : FVec Ideal S1x128 .f32) (ix2 (0 : Fin 1) n)
    = (m ((c.tc : Thread nD τ).loc main_arg4) : FVec Ideal S128 .f32) (ix1 n) := by
  unfold V
  after_results
  show shapeCast S1x128 (m ((c.tc : Thread nD τ).loc main_arg4) : FVec Ideal S128 .f32) shapeCasts_S128_S1x128 (ix2 (0 : Fin 1) n) = _
  generalize (m ((c.tc : Thread nD τ).loc main_arg4) : FVec Ideal S128 .f32) = b
  pointwise

/-! ## The blocks -/

/-! Where each window's block lies: the first argument's and the result's move with the point, the others stay. -/

theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![t.val, 0] := (by decide +kernel : ∀ t : Fin grid0.N, _)

/-- Block `t` of the first argument holds its rows from `2048 t` on. -/
theorem rows_block (c : Dev nD) (t : Fin cfg0.N) (r : Fin 2048) (d : Fin 64) (R : Fin 4096) (hR : R.val = t.val * 2048 + r.val) :
    (iblk m c 0 t : FVec Ideal S2048x64 .f32) (ix2 r d) = (m ((c.tc : Thread nD τ).loc main_arg0) : FVec Ideal S4096x64 .f32) (ix2 R d) := by
  rw [← V_main_arg0 m c]
  blk_simp [iblk]
  refine congrArg (V m c main_arg0) ?_
  blk_ext [place0]

/-- The hidden weights are one block. -/
theorem weight_block (c : Dev nD) (t : Fin cfg0.N) (h : Fin 512) (j : Fin 256) :
    (iblk m c 1 t : FVec Ideal S512x256 .f32) (ix2 h j) = (m ((c.tc : Thread nD τ).loc main_arg1) : FVec Ideal S512x256 .f32) (ix2 h j) := by
  rw [← V_main_arg1 m c]
  blk_simp [iblk]
  refine congrArg (V m c main_arg1) ?_
  blk_ext [place1]

/-- The hidden bias is one block. -/
theorem bias_block (c : Dev nD) (t : Fin cfg0.N) (h : Fin 512) :
    (iblk m c 2 t : FVec Ideal S1x512 .f32) (ix2 (0 : Fin 1) h) = (m ((c.tc : Thread nD τ).loc main_arg2) : FVec Ideal S512 .f32) (ix1 h) := by
  rw [← hidden_bias m c]
  blk_simp [iblk]
  refine congrArg (V m c main_v0) ?_
  blk_ext [place2]

/-- The output weights are one block. -/
theorem weight_block' (c : Dev nD) (t : Fin cfg0.N) (n : Fin 128) (h : Fin 512) :
    (iblk m c 3 t : FVec Ideal S128x512 .f32) (ix2 n h) = (m ((c.tc : Thread nD τ).loc main_arg3) : FVec Ideal S128x512 .f32) (ix2 n h) := by
  rw [← V_main_arg3 m c]
  blk_simp [iblk]
  refine congrArg (V m c main_arg3) ?_
  blk_ext [place3]

/-- The output bias is one block. -/
theorem bias_block' (c : Dev nD) (t : Fin cfg0.N) (n : Fin 128) :
    (iblk m c 4 t : FVec Ideal S1x128 .f32) (ix2 (0 : Fin 1) n) = (m ((c.tc : Thread nD τ).loc main_arg4) : FVec Ideal S128 .f32) (ix1 n) := by
  rw [← output_bias m c]
  blk_simp [iblk]
  refine congrArg (V m c main_v1) ?_
  blk_ext [place4]

/-! ## The array -/

/-- The result array: the network on each row of the first argument. -/
def result (c : Dev nD) : FVec Ideal S4096x128 .f32 := fun y =>
  Network.output (fun d => (m ((c.tc : Thread nD τ).loc main_arg0) : FVec Ideal S4096x64 .f32) (ix2 (y 0) d))
    (fun h j => (m ((c.tc : Thread nD τ).loc main_arg1) : FVec Ideal S512x256 .f32) (ix2 h j))
    (fun h => (m ((c.tc : Thread nD τ).loc main_arg2) : FVec Ideal S512 .f32) (ix1 h))
    (fun n h => (m ((c.tc : Thread nD τ).loc main_arg3) : FVec Ideal S128x512 .f32) (ix2 n h))
    (fun n => (m ((c.tc : Thread nD τ).loc main_arg4) : FVec Ideal S128 .f32) (ix1 n)) (y 1)

/-- What is stored at point `t`, at an index of the block. -/
theorem stored (c : Dev nD) (t : Fin cfg0.N) (r : Fin 2048) (n : Fin 128) (R : Fin 4096) (hR : R.val = t.val * 2048 + r.val) :
    k0_pay1 (F := Ideal) (k0_pay9 (F := Ideal) (k0_pay6 (F := Ideal) (iblk m c 0 t)) (k0_pay7 (F := Ideal) (iblk m c 0 t))
      (k0_pay8 (F := Ideal) (iota .tc S256x256 32 [0] iota_S256x256_d0_w32) (iota .tc S256x256 32 [1] iota_S256x256_d1_w32))
      (iblk m c 1 t) (iblk m c 2 t) (iblk m c 3 t)) (iblk m c 4 t) (ix2 r n) = result m c (ix2 R n) := by
  refine (Block.stored_at (iblk m c 0 t) (iblk m c 1 t) (iblk m c 2 t) (iblk m c 3 t) (iblk m c 4 t) r n).trans ?_
  rw [show (fun d => (iblk m c 0 t : FVec Ideal S2048x64 .f32) (ix2 r d)) = _ from funext fun d => rows_block m c t r d R hR,
    show (fun h j => (iblk m c 1 t : FVec Ideal S512x256 .f32) (ix2 h j)) = _ from funext fun h => funext fun j => weight_block m c t h j,
    show (fun h => (iblk m c 2 t : FVec Ideal S1x512 .f32) (ix2 (0 : Fin 1) h)) = _ from funext fun h => bias_block m c t h,
    show (fun n h => (iblk m c 3 t : FVec Ideal S128x512 .f32) (ix2 n h)) = _ from funext fun n => funext fun h => weight_block' m c t n h,
    show (fun n => (iblk m c 4 t : FVec Ideal S1x128 .f32) (ix2 (0 : Fin 1) n)) = _ from funext fun n => bias_block' m c t n]
  rfl

/-- The output array after the run. -/
theorem final (c : Dev nD) : (dats m 0 c).arrAt 5 cfg0.N = result m c := by
  refine (dats m 0 c).arrAt_eq_of_covers 5 _ (by decide +kernel) fun t hf y => ?_
  have hy0 : (y 0).val < 2048 := (y 0).isLt
  have hy1 : (y 1).val < 128 := (y 1).isLt
  have ht : t.val < 2 := t.isLt
  have e : ((cfg0.win 5).blk t).view.emb y = ix2 (⟨t.val * 2048 + (y 0).val, by omega⟩ : Fin 4096) (⟨(y 1).val, hy1⟩ : Fin 128) := by
    blk_ext [place5]
  rw [e]
  blk_simp
  rw [after0_5]
  frame_out
  have hy : y = ix2 (⟨(y 0).val, hy0⟩ : Fin 2048) (⟨(y 1).val, hy1⟩ : Fin 128) := by funext a; fin_cases a <;> rfl
  exact (congrArg _ hy).trans (stored m c t _ _ _ rfl)

end Cert.KernelIdeal.Value

end
-- ==== Proof.lean ====
/- The certificate's proof: each claim from the module that proves it, and the two results set side by side. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Reference
public import proofs.«01_k».proof.Proof.Array
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The two named constants have the values their names are given. -/
theorem preserved : Cert.preserves_Kernel_KernelIdeal :=
  ⟨IdealRules.named_const.statement Cert.KernelIdeal.κ "ent1" .f32 0xBF000000#32 _ rfl,
    IdealRules.named_const.statement Cert.KernelIdeal.κ "half_ent2" .f32 0xBE800000#32 _ rfl⟩

/-- The kernel and the reference leave the same array: the network on each row of the first argument. -/
theorem equal_results : Cert.algebraic_KernelIdeal_ReferenceIdeal (hKernelIdeal := Cert.KernelIdeal.Gen.facts)
    (hReferenceIdeal := Cert.ReferenceIdeal.Gen.facts) := fun m g m' g' _ ha => by
  refine ⟨fun c => Cert.KernelIdeal.Value.result m c, ?_, ?_⟩
  · refine (θ_run Cert.KernelIdeal.defs _ _).mono (fun r h c => ?_) (Cert.KernelIdeal.Value.run_blocks m g)
    exact ⟨(h c).1.trans (Cert.KernelIdeal.Value.final m c), (h c).2⟩
  · refine (θ_run Cert.ReferenceIdeal.defs _ _).mono (fun r h c => ?_) (Cert.ReferenceIdeal.Value.run m' g')
    refine ⟨(h c).1.trans ?_, (h c).2⟩
    obtain ⟨e0, e1, e2, e3, e4⟩ := ha c
    unfold Cert.ReferenceIdeal.Value.result Cert.KernelIdeal.Value.result
    rw [e0, e1, e2, e3, e4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, preserved, equal_results⟩

end Cert.Proof

end
